-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S16x128 Cert.KernelIdeal.S8x128
  ∧ IdealRules.bf16_pair.PackStatement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x4096 : Shape := ⟨3, ![1, 1024, 4096]⟩
abbrev S1x1024x11008 : Shape := ⟨3, ![1, 1024, 11008]⟩
abbrev S2048x11008 : Shape := ⟨2, ![2048, 11008]⟩
abbrev S64x11008 : Shape := ⟨2, ![64, 11008]⟩
abbrev S4096x64 : Shape := ⟨2, ![4096, 64]⟩
abbrev S16 : Shape := ⟨1, ![16]⟩
abbrev S1024x4096 : Shape := ⟨2, ![1024, 4096]⟩
abbrev S1024x11008 : Shape := ⟨2, ![1024, 11008]⟩
abbrev S8 : Shape := ⟨1, ![8]⟩
abbrev S8x1 : Shape := ⟨2, ![8, 1]⟩
abbrev S8x2 : Shape := ⟨2, ![8, 2]⟩
abbrev S16x1 : Shape := ⟨2, ![16, 1]⟩
abbrev S16x128 : Shape := ⟨2, ![16, 128]⟩
abbrev S1024x64 : Shape := ⟨2, ![1024, 64]⟩
abbrev S1024x256 : Shape := ⟨2, ![1024, 256]⟩
abbrev S64x256 : Shape := ⟨2, ![64, 256]⟩
abbrev S256x11008 : Shape := ⟨2, ![256, 11008]⟩
abbrev S8x11008 : Shape := ⟨2, ![8, 11008]⟩
abbrev S512x64 : Shape := ⟨2, ![512, 64]⟩
abbrev S1024x512 : Shape := ⟨2, ![1024, 512]⟩
abbrev S512x256 : Shape := ⟨2, ![512, 256]⟩
abbrev S32x128 : Shape := ⟨2, ![32, 128]⟩
abbrev S1x128 : Shape := ⟨2, ![1, 128]⟩
abbrev S8x128 : Shape := ⟨2, ![8, 128]⟩
abbrev S8x128x1 : Shape := ⟨3, ![8, 128, 1]⟩
abbrev S64x128 : Shape := ⟨2, ![64, 128]⟩
abbrev S1x1024x64 : Shape := ⟨3, ![1, 1024, 64]⟩

abbrev nBuf : Space → Nat
  | .hbm => 24
  | .vmem => 25
  | .smem => 0
  | _ => 0

abbrev bufTy : (tb : Table) → Fin (tcTables nBuf tb) → BufTy
  | .hbm, ⟨0, _⟩ => ⟨S1x1024x4096, .bf16⟩
  | .hbm, ⟨1, _⟩ => ⟨S1x1024x11008, .bf16⟩
  | .hbm, ⟨2, _⟩ => ⟨S2048x11008, .i8⟩
  | .hbm, ⟨3, _⟩ => ⟨S64x11008, .bf16⟩
  | .hbm, ⟨4, _⟩ => ⟨S4096x64, .bf16⟩
  | .hbm, ⟨5, _⟩ => ⟨S64x11008, .bf16⟩
  | .hbm, ⟨6, _⟩ => ⟨S16, .bf16⟩
  | .hbm, ⟨7, _⟩ => ⟨S1024x4096, .bf16⟩
  | .hbm, ⟨8, _⟩ => ⟨S1024x11008, .bf16⟩
  | .hbm, ⟨9, _⟩ => ⟨S8, .bf16⟩
  | .hbm, ⟨10, _⟩ => ⟨S8, .bf16⟩
  | .hbm, ⟨11, _⟩ => ⟨S8x1, .bf16⟩
  | .hbm, ⟨12, _⟩ => ⟨S8x1, .bf16⟩
  | .hbm, ⟨13, _⟩ => ⟨S8x2, .bf16⟩
  | .hbm, ⟨14, _⟩ => ⟨S16x1, .bf16⟩
  | .hbm, ⟨15, _⟩ => ⟨S16x128, .bf16⟩
  | .hbm, ⟨16, _⟩ => ⟨S4096x64, .f32⟩
  | .hbm, ⟨17, _⟩ => ⟨S64x11008, .f32⟩
  | .hbm, ⟨18, _⟩ => ⟨S1024x64, .bf16⟩
  | .hbm, ⟨19, _⟩ => ⟨S1024x64, .bf16⟩
  | .hbm, ⟨20, _⟩ => ⟨S1024x4096, .bf16⟩
  | .hbm, ⟨21, _⟩ => ⟨S1x1024x4096, .bf16⟩
  | .hbm, ⟨22, _⟩ => ⟨S1x1024x64, .bf16⟩
  | .hbm, ⟨23, _⟩ => ⟨S1x1024x64, .bf16⟩
  | .local _ .vmem, ⟨0, _⟩ => ⟨S1024x4096, .bf16⟩
  | .local _ .vmem, ⟨1, _⟩ => ⟨S1024x256, .bf16⟩
  | .local _ .vmem, ⟨2, _⟩ => ⟨S1024x256, .bf16⟩
  | .local _ .vmem, ⟨3, _⟩ => ⟨S4096x64, .bf16⟩
  | .local _ .vmem, ⟨4, _⟩ => ⟨S64x256, .bf16⟩
  | .local _ .vmem, ⟨5, _⟩ => ⟨S64x256, .bf16⟩
  | .local _ .vmem, ⟨6, _⟩ => ⟨S4096x64, .f32⟩
  | .local _ .vmem, ⟨7, _⟩ => ⟨S64x256, .f32⟩
  | .local _ .vmem, ⟨8, _⟩ => ⟨S64x256, .f32⟩
  | .local _ .vmem, ⟨9, _⟩ => ⟨S1024x64, .bf16⟩
  | .local _ .vmem, ⟨10, _⟩ => ⟨S1024x64, .bf16⟩
  | .local _ .vmem, ⟨11, _⟩ => ⟨S1024x64, .f32⟩
  | .local _ .vmem, ⟨12, _⟩ => ⟨S1024x11008, .bf16⟩
  | .local _ .vmem, ⟨13, _⟩ => ⟨S256x11008, .i8⟩
  | .local _ .vmem, ⟨14, _⟩ => ⟨S256x11008, .i8⟩
  | .local _ .vmem, ⟨15, _⟩ => ⟨S8x11008, .bf16⟩
  | .local _ .vmem, ⟨16, _⟩ => ⟨S8x11008, .bf16⟩
  | .local _ .vmem, ⟨17, _⟩ => ⟨S512x64, .bf16⟩
  | .local _ .vmem, ⟨18, _⟩ => ⟨S512x64, .bf16⟩
  | .local _ .vmem, ⟨19, _⟩ => ⟨S1024x64, .bf16⟩
  | .local _ .vmem, ⟨20, _⟩ => ⟨S16x128, .bf16⟩
  | .local _ .vmem, ⟨21, _⟩ => ⟨S1024x512, .bf16⟩
  | .local _ .vmem, ⟨22, _⟩ => ⟨S1024x512, .bf16⟩
  | .local _ .vmem, ⟨23, _⟩ => ⟨S512x256, .bf16⟩
  | .local _ .vmem, ⟨24, _⟩ => ⟨S1024x512, .f32⟩
  | _, _ => ⟨S1x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [BitOps F]

abbrev grid0 : Pipeline.Grid := ⟨1, ![43], ![false]⟩

def k0_cond2 (i : grid0.Coords) : BitVec 1 :=
  let arg0 : BitVec 32 := BitVec.ofNat 32 (i 0).val
  let c42_i32 : BitVec 32 := 42#32
  let v18 : BitVec 1 := Scalar.cmpi .eq arg0 c42_i32
  let v19 : BitVec 32 := Scalar.extui v18
  let c0_i32_14 : BitVec 32 := 0#32
  let v20 : BitVec 1 := Scalar.cmpi .ne v19 c0_i32_14
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![8], ![false]⟩

@[reducible] def k1_t1_loop : Scf.Loop 32 :=
  let c0_i32 : BitVec 32 := 0#32
  let c43_i32 : BitVec 32 := 43#32
  let v9 : BitVec 32 := Scalar.addi c0_i32 c43_i32
  let c1_i32 : BitVec 32 := 1#32
  ⟨c0_i32, v9, c1_i32⟩
def k1_mult1 (k1_t1 : Fin k1_t1_loop.trips) : BitVec 32 :=
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  v15
def k1_off1 (k1_t1 : Fin k1_t1_loop.trips) (c0_i32_13 : BitVec 32) : Fin 2 → Nat :=
  let c0_14 : Index := 0#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v17 : BitVec 32 := Scalar.addi v16 c0_i32_13
  let v18 : Index := Scalar.indexCast v17
  ![0, v18.toNat]
def k1_off2 (k1_t1 : Fin k1_t1_loop.trips) (c0_i32_15 : BitVec 32) : Fin 2 → Nat :=
  let c0_16 : Index := 0#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v20 : BitVec 32 := Scalar.addi v16 c0_i32_15
  let v21 : Index := Scalar.indexCast v20
  ![0, v21.toNat]
def k1_off3 (k1_t1 : Fin k1_t1_loop.trips) (c0_i32_33 : BitVec 32) : Fin 2 → Nat :=
  let c32 : Index := 32#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v168 : BitVec 32 := Scalar.addi v16 c0_i32_33
  let v169 : Index := Scalar.indexCast v168
  ![32, v169.toNat]
def k1_off4 (k1_t1 : Fin k1_t1_loop.trips) (c0_i32_34 : BitVec 32) : Fin 2 → Nat :=
  let c1 : Index := 1#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v171 : BitVec 32 := Scalar.addi v16 c0_i32_34
  let v172 : Index := Scalar.indexCast v171
  ![1, v172.toNat]
def k1_off5 (k1_t1 : Fin k1_t1_loop.trips) (c0_i32_56 : BitVec 32) : Fin 2 → Nat :=
  let c64_57 : Index := 64#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v319 : BitVec 32 := Scalar.addi v16 c0_i32_56
  let v320 : Index := Scalar.indexCast v319
  ![64, v320.toNat]
def k1_off6 (k1_t1 : Fin k1_t1_loop.trips) (c0_i32_58 : BitVec 32) : Fin 2 → Nat :=
  let c2 : Index := 2#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v322 : BitVec 32 := Scalar.addi v16 c0_i32_58
  let v323 : Index := Scalar.indexCast v322
  ![2, v323.toNat]
def k1_off7 (k1_t1 : Fin k1_t1_loop.trips) (c0_i32_80 : BitVec 32) : Fin 2 → Nat :=
  let c96 : Index := 96#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v470 : BitVec 32 := Scalar.addi v16 c0_i32_80
  let v471 : Index := Scalar.indexCast v470
  ![96, v471.toNat]
def k1_off8 (k1_t1 : Fin k1_t1_loop.trips) (c0_i32_81 : BitVec 32) : Fin 2 → Nat :=
  let c3 : Index := 3#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v473 : BitVec 32 := Scalar.addi v16 c0_i32_81
  let v474 : Index := Scalar.indexCast v473
  ![3, v474.toNat]
def k1_off9 (k1_t1 : Fin k1_t1_loop.trips) (c0_i32_103 : BitVec 32) : Fin 2 → Nat :=
  let c128_104 : Index := 128#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v621 : BitVec 32 := Scalar.addi v16 c0_i32_103
  let v622 : Index := Scalar.indexCast v621
  ![128, v622.toNat]
def k1_off10 (k1_t1 : Fin k1_t1_loop.trips) (c0_i32_105 : BitVec 32) : Fin 2 → Nat :=
  let c4 : Index := 4#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v624 : BitVec 32 := Scalar.addi v16 c0_i32_105
  let v625 : Index := Scalar.indexCast v624
  ![4, v625.toNat]
def k1_off11 (k1_t1 : Fin k1_t1_loop.trips) (c0_i32_127 : BitVec 32) : Fin 2 → Nat :=
  let c160 : Index := 160#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v772 : BitVec 32 := Scalar.addi v16 c0_i32_127
  let v773 : Index := Scalar.indexCast v772
  ![160, v773.toNat]
def k1_off12 (k1_t1 : Fin k1_t1_loop.trips) (c0_i32_128 : BitVec 32) : Fin 2 → Nat :=
  let c5 : Index := 5#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v775 : BitVec 32 := Scalar.addi v16 c0_i32_128
  let v776 : Index := Scalar.indexCast v775
  ![5, v776.toNat]
def k1_off13 (k1_t1 : Fin k1_t1_loop.trips) (c0_i32_150 : BitVec 32) : Fin 2 → Nat :=
  let c192_151 : Index := 192#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v923 : BitVec 32 := Scalar.addi v16 c0_i32_150
  let v924 : Index := Scalar.indexCast v923
  ![192, v924.toNat]
def k1_off14 (k1_t1 : Fin k1_t1_loop.trips) (c0_i32_152 : BitVec 32) : Fin 2 → Nat :=
  let c6 : Index := 6#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v926 : BitVec 32 := Scalar.addi v16 c0_i32_152
  let v927 : Index := Scalar.indexCast v926
  ![6, v927.toNat]
def k1_off15 (k1_t1 : Fin k1_t1_loop.trips) (c0_i32_174 : BitVec 32) : Fin 2 → Nat :=
  let c224 : Index := 224#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v1074 : BitVec 32 := Scalar.addi v16 c0_i32_174
  let v1075 : Index := Scalar.indexCast v1074
  ![224, v1075.toNat]
def k1_off16 (k1_t1 : Fin k1_t1_loop.trips) (c0_i32_175 : BitVec 32) : Fin 2 → Nat :=
  let c7 : Index := 7#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v1077 : BitVec 32 := Scalar.addi v16 c0_i32_175
  let v1078 : Index := Scalar.indexCast v1077
  ![7, v1078.toNat]
def k1_off17 (k1_t1 : Fin k1_t1_loop.trips) : Fin 2 → Nat :=
  let c0_406 : Index := 0#32
  let c0_i32_12 : BitVec 32 := 0#32
  let c0_i32 : BitVec 32 := 0#32
  let c1_i32 : BitVec 32 := 1#32
  let arg10 : BitVec 32 := Scf.iv c0_i32 c1_i32 k1_t1
  let c1_i32_11 : BitVec 32 := 1#32
  let v13 : BitVec 32 := Scalar.muli arg10 c1_i32_11
  let v14 : BitVec 32 := Scalar.addi c0_i32_12 v13
  let c256_i32 : BitVec 32 := 256#32
  let v15 : BitVec 32 := Scalar.muli v14 c256_i32
  let v16 : BitVec 32 := v15
  let v2434 : Index := Scalar.indexCast v16
  ![0, v2434.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x11008 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x11008 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x11008 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F]
-- ==== ReferenceIdeal.lean ====
abbrev S1x1024x4096 : Shape := ⟨3, ![1, 1024, 4096]⟩
abbrev S1x1024x11008 : Shape := ⟨3, ![1, 1024, 11008]⟩
abbrev S2048x11008 : Shape := ⟨2, ![2048, 11008]⟩
abbrev S64x11008 : Shape := ⟨2, ![64, 11008]⟩
abbrev S4096x64 : Shape := ⟨2, ![4096, 64]⟩
abbrev S1024x4096 : Shape := ⟨2, ![1024, 4096]⟩
abbrev S1024x11008 : Shape := ⟨2, ![1024, 11008]⟩
abbrev S_ : Shape := ⟨0, ![]⟩
abbrev S64x32x11008 : Shape := ⟨3, ![64, 32, 11008]⟩
abbrev S64x1x11008 : Shape := ⟨3, ![64, 1, 11008]⟩
abbrev S1024x2048 : Shape := ⟨2, ![1024, 2048]⟩
abbrev S1024x2048x1 : Shape := ⟨3, ![1024, 2048, 1]⟩
abbrev S1024x2048x2 : Shape := ⟨3, ![1024, 2048, 2]⟩
abbrev S1024x64 : Shape := ⟨2, ![1024, 64]⟩
abbrev S1x1024x64 : Shape := ⟨3, ![1, 1024, 64]⟩

abbrev nBuf : Space → Nat
  | .hbm => 194
  | .vmem => 0
  | .smem => 0
  | _ => 0

abbrev hbmTy0_0 (i : Nat) : BufTy := match i % 128 with
  | 0 => ⟨S1x1024x4096, .bf16⟩
  | 1 => ⟨S1x1024x11008, .bf16⟩
  | 2 => ⟨S2048x11008, .i8⟩
  | 3 => ⟨S64x11008, .bf16⟩
  | 4 => ⟨S4096x64, .bf16⟩
  | 5 => ⟨S64x11008, .bf16⟩
  | 6 => ⟨S1024x4096, .bf16⟩
  | 7 => ⟨S1024x11008, .bf16⟩
  | 8 => ⟨S_, .f32⟩
  | 9 => ⟨S_, .f32⟩
  | 10 => ⟨S_, .f32⟩
  | 11 => ⟨S2048x11008, .i32⟩
  | 12 => ⟨S_, .i32⟩
  | 13 => ⟨S2048x11008, .i32⟩
  | 14 => ⟨S2048x11008, .i32⟩
  | 15 => ⟨S_, .i32⟩
  | 16 => ⟨S2048x11008, .i32⟩
  | 17 => ⟨S2048x11008, .i32⟩
  | 18 => ⟨S_, .i32⟩
  | 19 => ⟨S2048x11008, .i32⟩
  | 20 => ⟨S2048x11008, .i32⟩
  | 21 => ⟨S_, .i32⟩
  | 22 => ⟨S2048x11008, .i32⟩
  | 23 => ⟨S2048x11008, .i1⟩
  | 24 => ⟨S_, .i32⟩
  | 25 => ⟨S2048x11008, .i32⟩
  | 26 => ⟨S2048x11008, .i32⟩
  | 27 => ⟨S_, .i32⟩
  | 28 => ⟨S2048x11008, .i32⟩
  | 29 => ⟨S2048x11008, .i1⟩
  | 30 => ⟨S_, .i32⟩
  | 31 => ⟨S2048x11008, .i32⟩
  | 32 => ⟨S2048x11008, .i32⟩
  | 33 => ⟨S_, .i32⟩
  | 34 => ⟨S2048x11008, .i32⟩
  | 35 => ⟨S2048x11008, .i1⟩
  | 36 => ⟨S_, .i32⟩
  | 37 => ⟨S2048x11008, .i32⟩
  | 38 => ⟨S2048x11008, .i32⟩
  | 39 => ⟨S_, .i32⟩
  | 40 => ⟨S2048x11008, .i32⟩
  | 41 => ⟨S2048x11008, .i1⟩
  | 42 => ⟨S_, .bf16⟩
  | 43 => ⟨S_, .bf16⟩
  | 44 => ⟨S2048x11008, .bf16⟩
  | 45 => ⟨S2048x11008, .bf16⟩
  | 46 => ⟨S2048x11008, .bf16⟩
  | 47 => ⟨S_, .bf16⟩
  | 48 => ⟨S_, .bf16⟩
  | 49 => ⟨S2048x11008, .bf16⟩
  | 50 => ⟨S2048x11008, .bf16⟩
  | 51 => ⟨S2048x11008, .bf16⟩
  | 52 => ⟨S2048x11008, .bf16⟩
  | 53 => ⟨S_, .bf16⟩
  | 54 => ⟨S_, .bf16⟩
  | 55 => ⟨S2048x11008, .bf16⟩
  | 56 => ⟨S2048x11008, .bf16⟩
  | 57 => ⟨S2048x11008, .bf16⟩
  | 58 => ⟨S_, .bf16⟩
  | 59 => ⟨S_, .bf16⟩
  | 60 => ⟨S2048x11008, .bf16⟩
  | 61 => ⟨S2048x11008, .bf16⟩
  | 62 => ⟨S2048x11008, .bf16⟩
  | 63 => ⟨S2048x11008, .bf16⟩
  | 64 => ⟨S2048x11008, .bf16⟩
  | 65 => ⟨S_, .bf16⟩
  | 66 => ⟨S_, .bf16⟩
  | 67 => ⟨S2048x11008, .bf16⟩
  | 68 => ⟨S2048x11008, .bf16⟩
  | 69 => ⟨S2048x11008, .bf16⟩
  | 70 => ⟨S_, .bf16⟩
  | 71 => ⟨S_, .bf16⟩
  | 72 => ⟨S2048x11008, .bf16⟩
  | 73 => ⟨S2048x11008, .bf16⟩
  | 74 => ⟨S2048x11008, .bf16⟩
  | 75 => ⟨S2048x11008, .bf16⟩
  | 76 => ⟨S_, .bf16⟩
  | 77 => ⟨S_, .bf16⟩
  | 78 => ⟨S2048x11008, .bf16⟩
  | 79 => ⟨S2048x11008, .bf16⟩
  | 80 => ⟨S2048x11008, .bf16⟩
  | 81 => ⟨S_, .bf16⟩
  | 82 => ⟨S_, .bf16⟩
  | 83 => ⟨S2048x11008, .bf16⟩
  | 84 => ⟨S2048x11008, .bf16⟩
  | 85 => ⟨S2048x11008, .bf16⟩
  | 86 => ⟨S2048x11008, .bf16⟩
  | 87 => ⟨S2048x11008, .bf16⟩
  | 88 => ⟨S2048x11008, .bf16⟩
  | 89 => ⟨S64x32x11008, .bf16⟩
  | 90 => ⟨S64x1x11008, .bf16⟩
  | 91 => ⟨S64x32x11008, .bf16⟩
  | 92 => ⟨S64x32x11008, .bf16⟩
  | 93 => ⟨S2048x11008, .bf16⟩
  | 94 => ⟨S_, .i32⟩
  | 95 => ⟨S2048x11008, .i32⟩
  | 96 => ⟨S2048x11008, .i32⟩
  | 97 => ⟨S_, .i32⟩
  | 98 => ⟨S2048x11008, .i32⟩
  | 99 => ⟨S2048x11008, .i1⟩
  | 100 => ⟨S_, .i32⟩
  | 101 => ⟨S2048x11008, .i32⟩
  | 102 => ⟨S2048x11008, .i32⟩
  | 103 => ⟨S_, .i32⟩
  | 104 => ⟨S2048x11008, .i32⟩
  | 105 => ⟨S2048x11008, .i1⟩
  | 106 => ⟨S_, .i32⟩
  | 107 => ⟨S2048x11008, .i32⟩
  | 108 => ⟨S2048x11008, .i32⟩
  | 109 => ⟨S_, .i32⟩
  | 110 => ⟨S2048x11008, .i32⟩
  | 111 => ⟨S2048x11008, .i1⟩
  | 112 => ⟨S_, .i32⟩
  | 113 => ⟨S2048x11008, .i32⟩
  | 114 => ⟨S2048x11008, .i32⟩
  | 115 => ⟨S_, .i32⟩
  | 116 => ⟨S2048x11008, .i32⟩
  | 117 => ⟨S2048x11008, .i1⟩
  | 118 => ⟨S_, .bf16⟩
  | 119 => ⟨S_, .bf16⟩
  | 120 => ⟨S2048x11008, .bf16⟩
  | 121 => ⟨S2048x11008, .bf16⟩
  | 122 => ⟨S2048x11008, .bf16⟩
  | 123 => ⟨S_, .bf16⟩
  | 124 => ⟨S_, .bf16⟩
  | 125 => ⟨S2048x11008, .bf16⟩
  | 126 => ⟨S2048x11008, .bf16⟩
  | 127 => ⟨S2048x11008, .bf16⟩
  | _ => ⟨S1x1024x4096, .bf16⟩

abbrev hbmTy0_1 (i : Nat) : BufTy := match i % 128 with
  | 0 => ⟨S2048x11008, .bf16⟩
  | 1 => ⟨S_, .bf16⟩
  | 2 => ⟨S_, .bf16⟩
  | 3 => ⟨S2048x11008, .bf16⟩
  | 4 => ⟨S2048x11008, .bf16⟩
  | 5 => ⟨S2048x11008, .bf16⟩
  | 6 => ⟨S_, .bf16⟩
  | 7 => ⟨S_, .bf16⟩
  | 8 => ⟨S2048x11008, .bf16⟩
  | 9 => ⟨S2048x11008, .bf16⟩
  | 10 => ⟨S2048x11008, .bf16⟩
  | 11 => ⟨S2048x11008, .bf16⟩
  | 12 => ⟨S2048x11008, .bf16⟩
  | 13 => ⟨S_, .bf16⟩
  | 14 => ⟨S_, .bf16⟩
  | 15 => ⟨S2048x11008, .bf16⟩
  | 16 => ⟨S2048x11008, .bf16⟩
  | 17 => ⟨S2048x11008, .bf16⟩
  | 18 => ⟨S_, .bf16⟩
  | 19 => ⟨S_, .bf16⟩
  | 20 => ⟨S2048x11008, .bf16⟩
  | 21 => ⟨S2048x11008, .bf16⟩
  | 22 => ⟨S2048x11008, .bf16⟩
  | 23 => ⟨S2048x11008, .bf16⟩
  | 24 => ⟨S_, .bf16⟩
  | 25 => ⟨S_, .bf16⟩
  | 26 => ⟨S2048x11008, .bf16⟩
  | 27 => ⟨S2048x11008, .bf16⟩
  | 28 => ⟨S2048x11008, .bf16⟩
  | 29 => ⟨S_, .bf16⟩
  | 30 => ⟨S_, .bf16⟩
  | 31 => ⟨S2048x11008, .bf16⟩
  | 32 => ⟨S2048x11008, .bf16⟩
  | 33 => ⟨S2048x11008, .bf16⟩
  | 34 => ⟨S2048x11008, .bf16⟩
  | 35 => ⟨S2048x11008, .bf16⟩
  | 36 => ⟨S2048x11008, .bf16⟩
  | 37 => ⟨S64x32x11008, .bf16⟩
  | 38 => ⟨S64x1x11008, .bf16⟩
  | 39 => ⟨S64x32x11008, .bf16⟩
  | 40 => ⟨S64x32x11008, .bf16⟩
  | 41 => ⟨S2048x11008, .bf16⟩
  | 42 => ⟨S1024x2048, .f32⟩
  | 43 => ⟨S1024x2048, .f32⟩
  | 44 => ⟨S1024x2048x1, .f32⟩
  | 45 => ⟨S1024x2048x1, .f32⟩
  | 46 => ⟨S1024x2048x2, .f32⟩
  | 47 => ⟨S1024x4096, .f32⟩
  | 48 => ⟨S1024x64, .f32⟩
  | 49 => ⟨S1024x64, .bf16⟩
  | 50 => ⟨S1024x64, .f32⟩
  | 51 => ⟨S1024x64, .bf16⟩
  | 52 => ⟨S1024x4096, .f32⟩
  | 53 => ⟨S1024x4096, .f32⟩
  | 54 => ⟨S1024x4096, .f32⟩
  | 55 => ⟨S1024x4096, .f32⟩
  | 56 => ⟨S1024x4096, .bf16⟩
  | 57 => ⟨S1x1024x4096, .bf16⟩
  | 58 => ⟨S4096x64, .f32⟩
  | 59 => ⟨S4096x64, .f32⟩
  | 60 => ⟨S4096x64, .f32⟩
  | 61 => ⟨S64x11008, .f32⟩
  | 62 => ⟨S64x11008, .f32⟩
  | 63 => ⟨S64x11008, .f32⟩
  | 64 => ⟨S1x1024x64, .bf16⟩
  | 65 => ⟨S1x1024x64, .bf16⟩
  | _ => ⟨S1x1024x4096, .bf16⟩

abbrev hbmTy (i : Nat) : BufTy := match i / 128 with
  | 0 => hbmTy0_0 i
  | 1 => hbmTy0_1 i
  | _ => ⟨S1x1024x4096, .bf16⟩

abbrev bufTy : (tb : Table) → Fin (tcTables nBuf tb) → BufTy
  | .hbm, ⟨i, _⟩ => hbmTy i
  | _, _ => ⟨S1x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_v18 : Ref sig .tc := ⟨.hbm, 34, rfl⟩
abbrev main_v19 : Ref sig .tc := ⟨.hbm, 35, rfl⟩
abbrev main_c_8 : Ref sig .tc := ⟨.hbm, 36, rfl⟩
abbrev main_v20 : Ref sig .tc := ⟨.hbm, 37, rfl⟩
abbrev main_v21 : Ref sig .tc := ⟨.hbm, 38, rfl⟩
abbrev main_c_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_cst_11 : Ref sig .tc := ⟨.hbm, 43, rfl⟩
abbrev main_call0_v0 : Ref sig .tc := ⟨.hbm, 44, rfl⟩
abbrev main_call0_v1 : Ref sig .tc := ⟨.hbm, 45, rfl⟩
abbrev main_v24 : Ref sig .tc := ⟨.hbm, 46, rfl⟩
abbrev main_cst_12 : Ref sig .tc := ⟨.hbm, 47, rfl⟩
abbrev main_cst_13 : Ref sig .tc := ⟨.hbm, 48, rfl⟩
abbrev main_call1_v0 : Ref sig .tc := ⟨.hbm, 49, rfl⟩
abbrev main_call1_v1 : Ref sig .tc := ⟨.hbm, 50, rfl⟩
abbrev main_v25 : Ref sig .tc := ⟨.hbm, 51, rfl⟩
abbrev main_v26 : Ref sig .tc := ⟨.hbm, 52, rfl⟩
abbrev main_cst_14 : Ref sig .tc := ⟨.hbm, 53, rfl⟩
abbrev main_cst_15 : Ref sig .tc := ⟨.hbm, 54, rfl⟩
abbrev main_call3_v0 : Ref sig .tc := ⟨.hbm, 55, rfl⟩
abbrev main_call3_v1 : Ref sig .tc := ⟨.hbm, 56, rfl⟩
abbrev main_v27 : Ref sig .tc := ⟨.hbm, 57, rfl⟩
abbrev main_cst_16 : Ref sig .tc := ⟨.hbm, 58, rfl⟩
abbrev main_cst_17 : Ref sig .tc := ⟨.hbm, 59, rfl⟩
abbrev main_call4_v0 : Ref sig .tc := ⟨.hbm, 60, rfl⟩
abbrev main_call4_v1 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_18 : Ref sig .tc := ⟨.hbm, 65, rfl⟩
abbrev main_cst_19 : Ref sig .tc := ⟨.hbm, 66, rfl⟩
abbrev main_call7_v0 : Ref sig .tc := ⟨.hbm, 67, rfl⟩
abbrev main_call7_v1 : Ref sig .tc := ⟨.hbm, 68, rfl⟩
abbrev main_v31 : Ref sig .tc := ⟨.hbm, 69, rfl⟩
abbrev main_cst_20 : Ref sig .tc := ⟨.hbm, 70, rfl⟩
abbrev main_cst_21 : Ref sig .tc := ⟨.hbm, 71, rfl⟩
abbrev main_call8_v0 : Ref sig .tc := ⟨.hbm, 72, rfl⟩
abbrev main_call8_v1 : Ref sig .tc := ⟨.hbm, 73, rfl⟩
abbrev main_v32 : Ref sig .tc := ⟨.hbm, 74, rfl⟩
abbrev main_v33 : Ref sig .tc := ⟨.hbm, 75, rfl⟩
abbrev main_cst_22 : Ref sig .tc := ⟨.hbm, 76, rfl⟩
abbrev main_cst_23 : Ref sig .tc := ⟨.hbm, 77, rfl⟩
abbrev main_call10_v0 : Ref sig .tc := ⟨.hbm, 78, rfl⟩
abbrev main_call10_v1 : Ref sig .tc := ⟨.hbm, 79, rfl⟩
abbrev main_v34 : Ref sig .tc := ⟨.hbm, 80, rfl⟩
abbrev main_cst_24 : Ref sig .tc := ⟨.hbm, 81, rfl⟩
abbrev main_cst_25 : Ref sig .tc := ⟨.hbm, 82, rfl⟩
abbrev main_call11_v0 : Ref sig .tc := ⟨.hbm, 83, rfl⟩
abbrev main_call11_v1 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_26 : Ref sig .tc := ⟨.hbm, 94, rfl⟩
abbrev main_v44 : Ref sig .tc := ⟨.hbm, 95, rfl⟩
abbrev main_v45 : Ref sig .tc := ⟨.hbm, 96, rfl⟩
abbrev main_c_27 : Ref sig .tc := ⟨.hbm, 97, rfl⟩
abbrev main_v46 : Ref sig .tc := ⟨.hbm, 98, rfl⟩
abbrev main_v47 : Ref sig .tc := ⟨.hbm, 99, rfl⟩
abbrev main_c_28 : Ref sig .tc := ⟨.hbm, 100, rfl⟩
abbrev main_v48 : Ref sig .tc := ⟨.hbm, 101, rfl⟩
abbrev main_v49 : Ref sig .tc := ⟨.hbm, 102, rfl⟩
abbrev main_c_29 : Ref sig .tc := ⟨.hbm, 103, rfl⟩
abbrev main_v50 : Ref sig .tc := ⟨.hbm, 104, rfl⟩
abbrev main_v51 : Ref sig .tc := ⟨.hbm, 105, rfl⟩
abbrev main_c_30 : Ref sig .tc := ⟨.hbm, 106, rfl⟩
abbrev main_v52 : Ref sig .tc := ⟨.hbm, 107, rfl⟩
abbrev main_v53 : Ref sig .tc := ⟨.hbm, 108, rfl⟩
abbrev main_c_31 : Ref sig .tc := ⟨.hbm, 109, rfl⟩
abbrev main_v54 : Ref sig .tc := ⟨.hbm, 110, rfl⟩
abbrev main_v55 : Ref sig .tc := ⟨.hbm, 111, rfl⟩
abbrev main_c_32 : Ref sig .tc := ⟨.hbm, 112, rfl⟩
abbrev main_v56 : Ref sig .tc := ⟨.hbm, 113, rfl⟩
abbrev main_v57 : Ref sig .tc := ⟨.hbm, 114, rfl⟩
abbrev main_c_33 : Ref sig .tc := ⟨.hbm, 115, rfl⟩
abbrev main_v58 : Ref sig .tc := ⟨.hbm, 116, rfl⟩
abbrev main_v59 : Ref sig .tc := ⟨.hbm, 117, rfl⟩
abbrev main_cst_34 : Ref sig .tc := ⟨.hbm, 118, rfl⟩
abbrev main_cst_35 : Ref sig .tc := ⟨.hbm, 119, rfl⟩
abbrev main_call15_v0 : Ref sig .tc := ⟨.hbm, 120, rfl⟩
abbrev main_call15_v1 : Ref sig .tc := ⟨.hbm, 121, rfl⟩
abbrev main_v60 : Ref sig .tc := ⟨.hbm, 122, rfl⟩
abbrev main_cst_36 : Ref sig .tc := ⟨.hbm, 123, rfl⟩
abbrev main_cst_37 : Ref sig .tc := ⟨.hbm, 124, rfl⟩
abbrev main_call16_v0 : Ref sig .tc := ⟨.hbm, 125, rfl⟩
abbrev main_call16_v1 : Ref sig .tc := ⟨.hbm, 126, rfl⟩
abbrev main_v61 : Ref sig .tc := ⟨.hbm, 127, rfl⟩
abbrev main_v62 : Ref sig .tc := ⟨.hbm, 128, rfl⟩
abbrev main_cst_38 : Ref sig .tc := ⟨.hbm, 129, rfl⟩
abbrev main_cst_39 : Ref sig .tc := ⟨.hbm, 130, rfl⟩
abbrev main_call18_v0 : Ref sig .tc := ⟨.hbm, 131, rfl⟩
abbrev main_call18_v1 : Ref sig .tc := ⟨.hbm, 132, rfl⟩
abbrev main_v63 : Ref sig .tc := ⟨.hbm, 133, rfl⟩
abbrev main_cst_40 : Ref sig .tc := ⟨.hbm, 134, rfl⟩
abbrev main_cst_41 : Ref sig .tc := ⟨.hbm, 135, rfl⟩
abbrev main_call19_v0 : Ref sig .tc := ⟨.hbm, 136, rfl⟩
abbrev main_call19_v1 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_42 : Ref sig .tc := ⟨.hbm, 141, rfl⟩
abbrev main_cst_43 : Ref sig .tc := ⟨.hbm, 142, rfl⟩
abbrev main_call22_v0 : Ref sig .tc := ⟨.hbm, 143, rfl⟩
abbrev main_call22_v1 : Ref sig .tc := ⟨.hbm, 144, rfl⟩
abbrev main_v67 : Ref sig .tc := ⟨.hbm, 145, rfl⟩
abbrev main_cst_44 : Ref sig .tc := ⟨.hbm, 146, rfl⟩
abbrev main_cst_45 : Ref sig .tc := ⟨.hbm, 147, rfl⟩
abbrev main_call23_v0 : Ref sig .tc := ⟨.hbm, 148, rfl⟩
abbrev main_call23_v1 : Ref sig .tc := ⟨.hbm, 149, rfl⟩
abbrev main_v68 : Ref sig .tc := ⟨.hbm, 150, rfl⟩
abbrev main_v69 : Ref sig .tc := ⟨.hbm, 151, rfl⟩
abbrev main_cst_46 : Ref sig .tc := ⟨.hbm, 152, rfl⟩
abbrev main_cst_47 : Ref sig .tc := ⟨.hbm, 153, rfl⟩
abbrev main_call25_v0 : Ref sig .tc := ⟨.hbm, 154, rfl⟩
abbrev main_call25_v1 : Ref sig .tc := ⟨.hbm, 155, rfl⟩
abbrev main_v70 : Ref sig .tc := ⟨.hbm, 156, rfl⟩
abbrev main_cst_48 : Ref sig .tc := ⟨.hbm, 157, rfl⟩
abbrev main_cst_49 : Ref sig .tc := ⟨.hbm, 158, rfl⟩
abbrev main_call26_v0 : Ref sig .tc := ⟨.hbm, 159, rfl⟩
abbrev main_call26_v1 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩

abbrev nD : Nat := 1
abbrev τ : Topo := Topo.v7x

variable {F : FTy → Type} [FloatOps F]
-- ==== Proof.KernelLoraBody.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A load of a whole buffer that holds `x` reads `x`. -/
theorem ld_whole {s : Shape} {e : EltTy} {m : Memref sig .tc .vmem s e} (h : m.IsWhole) (x : Vec F s e) {off : Fin s.rank → ℕ}
    (inb : ∀ a, off a + s.size a ≤ s.size a) :
    View.readAt (Elt F) m.view (Rect.unit off s.size inb).toLoadRect (h.unread x) = x :=
  (View.readAt_full _ _ inb).trans (h.read_unread x)

set_option maxHeartbeats 1000000 in
/-- AT THE FIRST POINT the body computes `xa = x·a`, clears the running sum, adds the first chunk's product to it and
    writes the first chunk of `db`. The two outputs of the last point are not touched. -/
theorem lora_first (c : Dev nD) (i : grid0.Coords) (arg1 : Memref sig .tc .vmem S1024x4096 .bf16) (harg1 : arg1.IsWhole)
    (arg2 : Memref sig .tc .vmem S1024x256 .bf16) (harg2 : arg2.IsWhole)
    (arg3 : Memref sig .tc .vmem S4096x64 .bf16) (harg3 : arg3.IsWhole)
    (arg4 : Memref sig .tc .vmem S64x256 .bf16) (harg4 : arg4.IsWhole)
    (arg5 : Memref sig .tc .vmem S4096x64 .f32) (harg5 : arg5.IsWhole)
    (arg6 : Memref sig .tc .vmem S64x256 .f32) (harg6 : arg6.IsWhole)
    (arg7 : Memref sig .tc .vmem S1024x64 .bf16) (harg7 : arg7.IsWhole)
    (arg8 : Memref sig .tc .vmem S1024x64 .bf16) (harg8 : arg8.IsWhole)
    (arg9 : Memref sig .tc .vmem S1024x64 .f32) (harg9 : arg9.IsWhole)
    (hc0 : k0_cond1 i = 1#1) (hc1 : ¬ k0_cond2 i = 1#1)
    (x0 : Vec F S1024x4096 .bf16) (x1 : Vec F S1024x256 .bf16) (x2 : Vec F S4096x64 .bf16) (x3 : Vec F S64x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay5 x1 (k0_pay1 x0 x2)) ∗ owns (c : Thread nD τ) arg8 fullShare (k0_pay1 x0 x2) ∗ owns (c : Thread nD τ) arg9 fullShare (k0_pay4 x1 k0_pay2 x3)) -∗ K ⟨⟩))
    ⊢ wp frame (wpE (defs₀ (F := F)) Variants.none c none) E (cc0_lora i arg1 harg1 arg2 harg2 arg3 harg3 arg4 harg4 arg5 harg5 arg6 harg6 arg7 harg7 arg8 harg8 arg9 harg9) K := by
  simp only [cc0_lora_eq_skeleton]; unfold cc0_lora_skel
  unfold owns
  iintro ⟨⟨%f1, %hf1, H1⟩, ⟨%f2, %hf2, H2⟩, ⟨%f3, %hf3, H3⟩, ⟨%f4, %hf4, H4⟩, ⟨%d6, %f6, -, H6⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H6]
  · iexists _; isplitr; swap; · iexact H6
    ipureintro
    exact (View.read_writes_full _ _ _ _ _).trans (congr (congrArg k0_pay5 (ld_whole harg2 x1 _)) ((View.readCov_full _ _ _ _ _).trans (congr (congrArg k0_pay1 (ld_whole harg1 x0 _)) (ld_whole harg3 x2 _))))
  isplitl [H8]
  · iexists _; isplitr; swap; · iexact H8
    ipureintro
    exact (View.read_writes_full _ _ _ _ _).trans ((congr (congrArg k0_pay1 (ld_whole harg1 x0 _)) (ld_whole harg3 x2 _)))
  iexists _; isplitr; swap; · iexact H9
  ipureintro
  exact (View.read_writes_full _ _ _ _ _).trans (congr (congr (congrArg k0_pay4 (ld_whole harg2 x1 _)) (View.readCov_full _ _ _ _ _)) (ld_whole harg4 x3 _))

set_option maxHeartbeats 1000000 in
/-- AT A MIDDLE POINT the body adds the chunk's product to the running sum `s` and writes the chunk of `db` from the `xa`
    it finds. -/
theorem lora_middle (c : Dev nD) (i : grid0.Coords) (arg1 : Memref sig .tc .vmem S1024x4096 .bf16) (harg1 : arg1.IsWhole)
    (arg2 : Memref sig .tc .vmem S1024x256 .bf16) (harg2 : arg2.IsWhole)
    (arg3 : Memref sig .tc .vmem S4096x64 .bf16) (harg3 : arg3.IsWhole)
    (arg4 : Memref sig .tc .vmem S64x256 .bf16) (harg4 : arg4.IsWhole)
    (arg5 : Memref sig .tc .vmem S4096x64 .f32) (harg5 : arg5.IsWhole)
    (arg6 : Memref sig .tc .vmem S64x256 .f32) (harg6 : arg6.IsWhole)
    (arg7 : Memref sig .tc .vmem S1024x64 .bf16) (harg7 : arg7.IsWhole)
    (arg8 : Memref sig .tc .vmem S1024x64 .bf16) (harg8 : arg8.IsWhole)
    (arg9 : Memref sig .tc .vmem S1024x64 .f32) (harg9 : arg9.IsWhole)
    (hc0 : ¬ k0_cond1 i = 1#1) (hc1 : ¬ k0_cond2 i = 1#1)
    (x0 : Vec F S1024x4096 .bf16) (x1 : Vec F S1024x256 .bf16) (x2 : Vec F S4096x64 .bf16) (x3 : Vec F S64x256 .bf16) (xa : Vec F S1024x64 .bf16) (s : Vec F S1024x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg8 fullShare xa ∗ owns (c : Thread nD τ) arg9 fullShare s
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay5 x1 xa) ∗ owns (c : Thread nD τ) arg8 fullShare xa ∗ owns (c : Thread nD τ) arg9 fullShare (k0_pay4 x1 s x3)) -∗ K ⟨⟩))
    ⊢ wp frame (wpE (defs₀ (F := F)) Variants.none c none) E (cc0_lora i arg1 harg1 arg2 harg2 arg3 harg3 arg4 harg4 arg5 harg5 arg6 harg6 arg7 harg7 arg8 harg8 arg9 harg9) K := by
  simp only [cc0_lora_eq_skeleton]; unfold cc0_lora_skel
  unfold owns
  iintro ⟨⟨%f1, %hf1, H1⟩, ⟨%f2, %hf2, H2⟩, ⟨%f3, %hf3, H3⟩, ⟨%f4, %hf4, H4⟩, ⟨%d6, %f6, -, H6⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg8.eq_unread hf8; obtain rfl := harg9.eq_unread hf9
  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H6]
  · iexists _; isplitr; swap; · iexact H6
    ipureintro
    exact (View.read_writes_full _ _ _ _ _).trans (congr (congrArg k0_pay5 (ld_whole harg2 x1 _)) (ld_whole harg8 xa _))
  isplitl [H8]
  · iexists _; isplitr; swap; · iexact H8
    ipureintro
    exact harg8.read_unread _
  iexists _; isplitr; swap; · iexact H9
  ipureintro
  exact (View.read_writes_full _ _ _ _ _).trans (congr (congr (congrArg k0_pay4 (ld_whole harg2 x1 _)) (ld_whole harg9 s _)) (ld_whole harg4 x3 _))

set_option maxHeartbeats 1000000 in
/-- AT THE LAST POINT the body does what it does at a middle point, then rounds the finished sum to `g` and writes
    `da` from it. -/
theorem lora_last (c : Dev nD) (i : grid0.Coords) (arg1 : Memref sig .tc .vmem S1024x4096 .bf16) (harg1 : arg1.IsWhole)
    (arg2 : Memref sig .tc .vmem S1024x256 .bf16) (harg2 : arg2.IsWhole)
    (arg3 : Memref sig .tc .vmem S4096x64 .bf16) (harg3 : arg3.IsWhole)
    (arg4 : Memref sig .tc .vmem S64x256 .bf16) (harg4 : arg4.IsWhole)
    (arg5 : Memref sig .tc .vmem S4096x64 .f32) (harg5 : arg5.IsWhole)
    (arg6 : Memref sig .tc .vmem S64x256 .f32) (harg6 : arg6.IsWhole)
    (arg7 : Memref sig .tc .vmem S1024x64 .bf16) (harg7 : arg7.IsWhole)
    (arg8 : Memref sig .tc .vmem S1024x64 .bf16) (harg8 : arg8.IsWhole)
    (arg9 : Memref sig .tc .vmem S1024x64 .f32) (harg9 : arg9.IsWhole)
    (hc0 : ¬ k0_cond1 i = 1#1) (hc1 : k0_cond2 i = 1#1)
    (x0 : Vec F S1024x4096 .bf16) (x1 : Vec F S1024x256 .bf16) (x2 : Vec F S4096x64 .bf16) (x3 : Vec F S64x256 .bf16) (xa : Vec F S1024x64 .bf16) (s : Vec F S1024x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xa ∗ owns (c : Thread nD τ) arg9 fullShare s
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay7 x0 (k0_pay6 (k0_pay4 x1 s x3))) ∗ owns (c : Thread nD τ) arg6 fullShare (k0_pay5 x1 xa) ∗ owns (c : Thread nD τ) arg7 fullShare (k0_pay6 (k0_pay4 x1 s x3)) ∗ owns (c : Thread nD τ) arg8 fullShare xa ∗ owns (c : Thread nD τ) arg9 fullShare (k0_pay4 x1 s x3)) -∗ K ⟨⟩))
    ⊢ wp frame (wpE (defs₀ (F := F)) Variants.none c none) E (cc0_lora i arg1 harg1 arg2 harg2 arg3 harg3 arg4 harg4 arg5 harg5 arg6 harg6 arg7 harg7 arg8 harg8 arg9 harg9) K := by
  simp only [cc0_lora_eq_skeleton]; unfold cc0_lora_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg8.eq_unread hf8; obtain rfl := harg9.eq_unread hf9
  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact (View.read_writes_full _ _ _ _ _).trans (congr (congrArg k0_pay7 (ld_whole harg1 x0 _)) ((View.readCov_full _ _ _ _ _).trans (congrArg k0_pay6 ((View.readCov_full _ _ _ _ _).trans (congr (congr (congrArg k0_pay4 (ld_whole harg2 x1 _)) (ld_whole harg9 s _)) (ld_whole harg4 x3 _))))))
  isplitl [H6]
  · iexists _; isplitr; swap; · iexact H6
    ipureintro
    exact (View.read_writes_full _ _ _ _ _).trans (congr (congrArg k0_pay5 (ld_whole harg2 x1 _)) (ld_whole harg8 xa _))
  isplitl [H7]
  · iexists _; isplitr; swap; · iexact H7
    ipureintro
    exact (View.read_writes_full _ _ _ _ _).trans (congrArg k0_pay6 ((View.readCov_full _ _ _ _ _).trans (congr (congr (congrArg k0_pay4 (ld_whole harg2 x1 _)) (ld_whole harg9 s _)) (ld_whole harg4 x3 _))))
  isplitl [H8]
  · iexists _; isplitr; swap; · iexact H8
    ipureintro
    exact harg8.read_unread _
  iexists _; isplitr; swap; · iexact H9
  ipureintro
  exact (View.read_writes_full _ _ _ _ _).trans (congr (congr (congrArg k0_pay4 (ld_whole harg2 x1 _)) (ld_whole harg9 s _)) (ld_whole harg4 x3 _))

end Cert.Kernel.Hand

end
-- ==== Proof.KernelLora.lean ====
module

public import proofs.«01_k».proof.Proof.Gen.Kernel.Launch
public import proofs.«01_k».proof.Proof.Gen.Kernel.Skeleton
public import proofs.«01_k».proof.Proof.Gen.Kernel.Points
public import proofs.«01_k».proof.Proof.KernelLoraBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region
/-! The contents of the TensorCore's buffers when the call is entered: everything below is stated at them. -/
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The buffer of window 0 at point `t`, and that it is a whole buffer. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
/-- The buffer of window 1 at point `t`, and that it is a whole buffer. -/
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
/-- The buffer of window 2 at point `t`, and that it is a whole buffer. -/
abbrev ms0_2 (t : Fin cfg0.N) : Memref sig .tc .vmem S4096x64 .bf16 := win0_2.stage (cfg0.slots t 2)
abbrev hs0_2 (t : Fin cfg0.N) : (ms0_2 t).IsWhole := hstage0_2 ((cfg0.slots t 2).cast nbuf0_2)
/-- The buffer of window 3 at point `t`, and that it is a whole buffer. -/
abbrev ms0_3 (t : Fin cfg0.N) : Memref sig .tc .vmem S64x256 .bf16 := win0_3.stage (cfg0.slots t 3)
abbrev hs0_3 (t : Fin cfg0.N) : (ms0_3 t).IsWhole := hstage0_3 ((cfg0.slots t 3).cast nbuf0_3)
/-- The buffer of window 4 at point `t`, and that it is a whole buffer. -/
abbrev ms0_4 (t : Fin cfg0.N) : Memref sig .tc .vmem S4096x64 .f32 := win0_4.stage (cfg0.slots t 4)
abbrev hs0_4 (t : Fin cfg0.N) : (ms0_4 t).IsWhole := hstage0_4 ((cfg0.slots t 4).cast nbuf0_4)
/-- The buffer of window 5 at point `t`, and that it is a whole buffer. -/
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
/-- The buffer of window 6 at point `t`, and that it is a whole buffer. -/
abbrev ms0_6 (t : Fin cfg0.N) : Memref sig .tc .vmem S1024x64 .bf16 := win0_6.stage (cfg0.slots t 6)
abbrev hs0_6 (t : Fin cfg0.N) : (ms0_6 t).IsWhole := hstage0_6 ((cfg0.slots t 6).cast nbuf0_6)
/-- The buffer of window 7 at point `t`, and that it is a whole buffer. -/
abbrev ms0_7 (t : Fin cfg0.N) : Memref sig .tc .vmem S1024x64 .bf16 := win0_7.stage (cfg0.slots t 7)
abbrev hs0_7 (t : Fin cfg0.N) : (ms0_7 t).IsWhole := hstage0_7 ((cfg0.slots t 7).cast nbuf0_7)
/-- The running sum's buffer. -/
abbrev scM0_0 : Memref sig .tc .vmem S1024x64 .f32 := Memref.whole cc0_scratch0

/-- The scoped buffers the first call does not use, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the first call is entered with: the running sum's buffer and the rest of the scoped buffers at some contents, the
    generator register at some state. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

/-! ## The two conditions of the body -/

/-- The first condition holds at the first point only. -/
theorem cond1_iff : ∀ t : Fin cfg0.N, k0_cond1 (grid0.coords t) = 1#1 ↔ t.val % 43 = 0 :=
  (fun t => by
    have ht : t.val < 43 := Nat.lt_of_lt_of_eq t.isLt N_0
    have e0 : (grid0.coords t 0).val = t.val / 1 % 43 := Pipeline.Grid.coords_val t 0 (by decide) rfl
    simp only [k0_cond1, e0]
    word_cmp
   : ∀ t : Fin grid0.N, k0_cond1 (grid0.coords t) = 1#1 ↔ t.val % 43 = 0)

/-- The second condition holds at the last point only. -/
theorem cond2_iff : ∀ t : Fin cfg0.N, k0_cond2 (grid0.coords t) = 1#1 ↔ t.val % 43 = 42 :=
  (fun t => by
    have ht : t.val < 43 := Nat.lt_of_lt_of_eq t.isLt N_0
    have e0 : (grid0.coords t 0).val = t.val / 1 % 43 := Pipeline.Grid.coords_val t 0 (by decide) rfl
    simp only [k0_cond2, e0]
    word_cmp
   : ∀ t : Fin grid0.N, k0_cond2 (grid0.coords t) = 1#1 ↔ t.val % 43 = 42)

/-! ## What the call computes, point by point -/

theorem N0_pos : 0 < cfg0.N := lt_of_lt_of_eq (by decide : 0 < 43) (N_0 : cfg0.N = 43).symm

/-- `xa`, computed at the first point from the whole of `x` and `a`. -/
def xaV (c : Dev nD) : Vec F S1024x64 .bf16 := k0_pay1 (iblk0 V c 0 ⟨0, N0_pos⟩) (iblk0 V c 2 ⟨0, N0_pos⟩)

/-- The running sum after `n` points: zero, then one chunk's product added per point. -/
def gsum (c : Dev nD) : ℕ → Vec F S1024x64 .f32
  | 0 => k0_pay2
  | n + 1 => if h : n < cfg0.N then k0_pay4 (iblk0 V c 1 ⟨n, h⟩) (gsum c n) (iblk0 V c 3 ⟨n, h⟩) else gsum c n

theorem gsum_succ (c : Dev nD) (t : Fin cfg0.N) :
    gsum V c (t.val + 1) = k0_pay4 (iblk0 V c 1 t) (gsum V c t.val) (iblk0 V c 3 t) := by
  rw [gsum, dif_pos t.isLt]

/-- `g`, the finished sum rounded. -/
def gV (c : Dev nD) : Vec F S1024x64 .bf16 := k0_pay6 (gsum V c 43)

/-- The invariant before point `n`: the running sum's buffer at `gsum n` (at anything before the first point). -/
def PhiS (c : Dev nD) : ℕ → sProp 𝕄
  | 0 => Pipeline.ΦA spec0 c
  | n + 1 => iprop(iprop(owns (c : Thread nD τ) scM0_0 fullShare (gsum V c (n + 1)) ∗ Rest0 c) ∗ (∃ r, prngReg c r))

/-- The first call's proof data: after the body at point `t` the inputs' buffers hold their blocks; `db`'s buffer the chunk
    computed there; `xa`'s buffer `xa`; `g`'s and `da`'s, at the point that stores them, the final values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay7 (iblk0 V c 0 t) (gV V c)
    | ⟨5, _⟩ => k0_pay5 (iblk0 V c 1 t) (xaV V c)
    | ⟨6, _⟩ => gV V c
    | ⟨7, _⟩ => xaV V c
  Φ t := PhiS V c t.val
  q _ := fullShare
  owed _ := 0

/-- The arrays are those the call is entered with. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay7 (iblk0 V c 0 t) (gV V c) := by dsimp only [dat0]
theorem after0_5 (c : Dev nD) (t : Fin cfg0.N) : (dat0 V c).after 5 t = k0_pay5 (iblk0 V c 1 t) (xaV V c) := by dsimp only [dat0]
theorem after0_6 (c : Dev nD) (t : Fin cfg0.N) : (dat0 V c).after 6 t = gV V c := by dsimp only [dat0]
theorem after0_7 (c : Dev nD) (t : Fin cfg0.N) : (dat0 V c).after 7 t = xaV V c := by dsimp only [dat0]

/-- Input window 0's buffer holds its block at every point. -/
theorem before0_0 (c : Dev nD) (t : Fin cfg0.N) (d) : (dat0 V c).before 0 t d = iblk0 V c 0 t :=
  before0_0_of V (dat0 V c) (A_eq0 V c 0) (after0_0 V c) t d
/-- Input window 1's buffer holds its block at every point. -/
theorem before0_1 (c : Dev nD) (t : Fin cfg0.N) (d) : (dat0 V c).before 1 t d = iblk0 V c 1 t :=
  before0_1_of V (dat0 V c) (A_eq0 V c 1) (after0_1 V c) t d
/-- Input window 2's buffer holds its block at every point. -/
theorem before0_2 (c : Dev nD) (t : Fin cfg0.N) (d) : (dat0 V c).before 2 t d = iblk0 V c 2 t :=
  before0_2_of V (dat0 V c) (A_eq0 V c 2) (after0_2 V c) t d
/-- Input window 3's buffer holds its block at every point. -/
theorem before0_3 (c : Dev nD) (t : Fin cfg0.N) (d) : (dat0 V c).before 3 t d = iblk0 V c 3 t :=
  before0_3_of V (dat0 V c) (A_eq0 V c 3) (after0_3 V c) t d
/-- Window 4 is idle except at the last point; -/
theorem idle0_4 (t : Fin cfg0.N) (h : ¬ k0_cond2 (grid0.coords t) = 1#1) : cfg0.idle 4 (grid0.coords t) = true := by
  show (!(k0_cond2 (grid0.coords t) == 1#1)) = true
  simp [h]
/-- there it is stored. -/
theorem live0_4 (t : Fin cfg0.N) (h : k0_cond2 (grid0.coords t) = 1#1) : cfg0.idle 4 (grid0.coords t) = false := by
  show (!(k0_cond2 (grid0.coords t) == 1#1)) = false
  simp [h]
/-- Window 6 is idle except at the last point; -/
theorem idle0_6 (t : Fin cfg0.N) (h : ¬ k0_cond2 (grid0.coords t) = 1#1) : cfg0.idle 6 (grid0.coords t) = true := by
  show (!(k0_cond2 (grid0.coords t) == 1#1)) = true
  simp [h]
/-- there it is stored. -/
theorem live0_6 (t : Fin cfg0.N) (h : k0_cond2 (grid0.coords t) = 1#1) : cfg0.idle 6 (grid0.coords t) = false := by
  show (!(k0_cond2 (grid0.coords t) == 1#1)) = false
  simp [h]
/-- Window 7 is idle except at the first point; -/
theorem idle0_7 (t : Fin cfg0.N) (h : ¬ k0_cond1 (grid0.coords t) = 1#1) : cfg0.idle 7 (grid0.coords t) = true := by
  show (!(k0_cond1 (grid0.coords t) == 1#1)) = true
  simp [h]
/-- there it is stored. -/
theorem live0_7 (t : Fin cfg0.N) (h : k0_cond1 (grid0.coords t) = 1#1) : cfg0.idle 7 (grid0.coords t) = false := by
  show (!(k0_cond1 (grid0.coords t) == 1#1)) = false
  simp [h]

/-- A window written back at the last point only is not written back before. -/
theorem noflush {w : Fin cfg0.W} (hw : ∀ t : Fin cfg0.N, (cfg0.win w).flush t = true ↔ t.val % 43 = 42) (t : Fin cfg0.N)
    (h : ¬ t.val % 43 = 42) : (cfg0.win w).flush t = false :=
  Bool.eq_false_iff.mpr fun hf => h ((hw t).mp hf)

/-- After the first point `xa`'s buffer holds `xa`: it was stored there, and nothing has touched it since. -/
theorem before0_7 (c : Dev nD) (n : ℕ) : ∀ (t : Fin cfg0.N), t.val = n + 1 → ∀ d, (dat0 V c).before 7 t d = xaV V c := by
  have hN : cfg0.N = 43 := N_0
  induction n with
  | zero =>
    intro t ht d
    have hlt := t.isLt
    rw [Dat.before_of_pos (dat0 V c) 7 t (by omega) rfl d, noflush flush0_7 _ (by show ¬ (t.val - 1) % 43 = 42; omega),
      if_neg Bool.false_ne_true]
    unfold Dat.left
    rw [live0_7 _ ((cond1_iff _).mpr (by show (t.val - 1) % 43 = 0; omega))]
    exact after0_7 V c _
  | succ n ih =>
    intro t ht d
    have hlt := t.isLt
    rw [Dat.before_of_pos (dat0 V c) 7 t (by omega) rfl d, noflush flush0_7 _ (by show ¬ (t.val - 1) % 43 = 42; omega),
      if_neg Bool.false_ne_true]
    unfold Dat.left
    rw [idle0_7 _ (fun h => by have := (cond1_iff _).mp h; have h' : (t.val - 1) % 43 = 0 := this; omega)]
    exact ih ⟨t.val - 1, by omega⟩ (by show t.val - 1 = n + 1; omega) d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- A window that is not idle leaves what the data say. -/
theorem leaves_live (c : Dev nD) {w : Fin cfg0.W} {t : Fin cfg0.N} (h : cfg0.idle w (grid0.coords t) = false) :
    (dat0 V c).leavesExact w t = owns (c : Thread nD τ) ((cfg0.win w).stage (cfg0.slots t w)) fullShare ((dat0 V c).after w t) := by
  unfold Dat.leavesExact; rw [h]

/-- So does a window written back at the point. -/
theorem leaves_flush (c : Dev nD) {w : Fin cfg0.W} {t : Fin cfg0.N} (h : cfg0.idle w (grid0.coords t) = true)
    (hf : (cfg0.win w).flush t = true) :
    (dat0 V c).leavesExact w t = owns (c : Thread nD τ) ((cfg0.win w).stage (cfg0.slots t w)) fullShare ((dat0 V c).after w t) := by
  unfold Dat.leavesExact; rw [h, hf]

set_option maxHeartbeats 1600000 in
/-- The body at the first point. -/
theorem sound_body0_first (c : Dev nD) (t : Fin cfg0.N) (h : t.val % 43 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiS V c (t.val + 1) from rfl, show (dat0 V c).Φ t.castSucc = PhiS V c t.val from rfl,
    leaves_live V c (w := 0) (t := t) rfl, leaves_live V c (w := 1) (t := t) rfl, leaves_live V c (w := 2) (t := t) rfl,
    leaves_live V c (w := 3) (t := t) rfl, leaves_live V c (w := 5) (t := t) rfl,
    after0_0, after0_1, after0_2, after0_3, after0_5]
  have hN : t.val < 43 := lt_of_lt_of_eq t.isLt N_0
  have ht0 : t = ⟨0, N0_pos⟩ := Fin.ext (by show t.val = 0; omega)
  have hc0 := (cond1_iff t).mpr h
  have hc1 : ¬ k0_cond2 (grid0.coords t) = 1#1 := fun e => by have := (cond2_iff t).mp e; omega
  rw [Dat.leavesExact_idle _ 4 t (idle0_4 t hc1) (noflush flush0_4 t (by omega)),
    Dat.leavesExact_idle _ 6 t (idle0_6 t hc1) (noflush flush0_6 t (by omega)),
    leaves_live V c (live0_7 t hc0), after0_7]
  have e1 : k0_pay4 (iblk0 V c 1 t) k0_pay2 (iblk0 V c 3 t) = gsum V c (t.val + 1) := by
    rw [gsum_succ, show t.val = 0 by omega]; rfl
  have e2 : k0_pay1 (iblk0 V c 0 t) (iblk0 V c 2 t) = xaV V c := by subst ht0; rfl
  rw [show PhiS V c t.val = Pipeline.ΦA spec0 c by rw [show t.val = 0 by omega]; rfl, PhiA0_eq, ← e2, PhiS, ← e1]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (lora_first c (grid0.coords t) _ _ _ _ _ _ _ _ _ _ _ _ _ _ _ _ _ _ hc0 hc1 (iblk0 V c 0 t) (iblk0 V c 1 t) (iblk0 V c 2 t) (iblk0 V c 3 t) Set.univ _)
  isplitl [H0]; · iexact H0
  isplitl [H1]; · iexact H1
  isplitl [H2]; · iexact H2
  isplitl [H3]; · iexact H3
  isplitl [H5]; · iexists _; iexact H5
  isplitl [H7]; · iexists _; iexact H7
  isplitl [HS0]; · iexact HS0
  iintro ⟨H0, H1, H2, H3, H5, H7, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  iexact H7

set_option maxHeartbeats 1600000 in
/-- The body at a middle point. -/
theorem sound_body0_middle (c : Dev nD) (t : Fin cfg0.N) (h : ¬ t.val % 43 = 0) (h' : ¬ t.val % 43 = 42) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiS V c (t.val + 1) from rfl, show (dat0 V c).Φ t.castSucc = PhiS V c t.val from rfl,
    leaves_live V c (w := 0) (t := t) rfl, leaves_live V c (w := 1) (t := t) rfl, leaves_live V c (w := 2) (t := t) rfl,
    leaves_live V c (w := 3) (t := t) rfl, leaves_live V c (w := 5) (t := t) rfl,
    after0_0, after0_1, after0_2, after0_3, after0_5]
  have hN : t.val < 43 := lt_of_lt_of_eq t.isLt N_0
  have hc0 : ¬ k0_cond1 (grid0.coords t) = 1#1 := fun e => h ((cond1_iff t).mp e)
  have hc1 : ¬ k0_cond2 (grid0.coords t) = 1#1 := fun e => h' ((cond2_iff t).mp e)
  rw [Dat.leavesExact_idle _ 4 t (idle0_4 t hc1) (noflush flush0_4 t h'),
    Dat.leavesExact_idle _ 6 t (idle0_6 t hc1) (noflush flush0_6 t h'),
    Dat.leavesExact_idle _ 7 t (idle0_7 t hc0) (noflush flush0_7 t h')]
  obtain ⟨n, hn⟩ : ∃ n, t.val = n + 1 := ⟨t.val - 1, by omega⟩
  have e7 := before0_7 V c n t hn
  simp only [e7]
  have e1 := gsum_succ V c t
  rw [show PhiS V c (t.val + 1) = iprop(iprop(owns (c : Thread nD τ) scM0_0 fullShare (gsum V c (t.val + 1)) ∗ Rest0 c) ∗ (∃ r, prngReg c r)) from rfl,
    show PhiS V c t.val = iprop(iprop(owns (c : Thread nD τ) scM0_0 fullShare (gsum V c t.val) ∗ Rest0 c) ∗ (∃ r, prngReg c r)) by rw [hn]; rfl]
  rw [e1]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (lora_middle c (grid0.coords t) _ _ _ _ _ _ _ _ _ _ _ _ _ _ _ _ _ _ hc0 hc1 (iblk0 V c 0 t) (iblk0 V c 1 t) (iblk0 V c 2 t) (iblk0 V c 3 t) (xaV V c) (gsum V c t.val) Set.univ _)
  isplitl [H0]; · iexact H0
  isplitl [H1]; · iexact H1
  isplitl [H2]; · iexact H2
  isplitl [H3]; · iexact H3
  isplitl [H5]; · iexists _; iexact H5
  isplitl [H7]; · iexact H7
  isplitl [HS0]; · iexact HS0
  iintro ⟨H0, H1, H2, H3, H5, H7, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  iexists d7; iexact H7

set_option maxHeartbeats 1600000 in
/-- The body at the last point. -/
theorem sound_body0_last (c : Dev nD) (t : Fin cfg0.N) (h : ¬ t.val % 43 = 0) (h' : t.val % 43 = 42) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiS V c (t.val + 1) from rfl, show (dat0 V c).Φ t.castSucc = PhiS V c t.val from rfl,
    leaves_live V c (w := 0) (t := t) rfl, leaves_live V c (w := 1) (t := t) rfl, leaves_live V c (w := 2) (t := t) rfl,
    leaves_live V c (w := 3) (t := t) rfl, leaves_live V c (w := 5) (t := t) rfl,
    after0_0, after0_1, after0_2, after0_3, after0_5]
  have hN : t.val < 43 := lt_of_lt_of_eq t.isLt N_0
  have hc0 : ¬ k0_cond1 (grid0.coords t) = 1#1 := fun e => h ((cond1_iff t).mp e)
  have hc1 : k0_cond2 (grid0.coords t) = 1#1 := (cond2_iff t).mpr h'
  rw [leaves_live V c (live0_4 t hc1), leaves_live V c (live0_6 t hc1),
    leaves_flush V c (idle0_7 t hc0) ((flush0_7 t).mpr h'), after0_4, after0_6, after0_7]
  obtain ⟨n, hn⟩ : ∃ n, t.val = n + 1 := ⟨t.val - 1, by omega⟩
  have e7 := before0_7 V c n t hn
  simp only [e7]
  have e1 := gsum_succ V c t
  rw [show PhiS V c (t.val + 1) = iprop(iprop(owns (c : Thread nD τ) scM0_0 fullShare (gsum V c (t.val + 1)) ∗ Rest0 c) ∗ (∃ r, prngReg c r)) from rfl,
    show PhiS V c t.val = iprop(iprop(owns (c : Thread nD τ) scM0_0 fullShare (gsum V c t.val) ∗ Rest0 c) ∗ (∃ r, prngReg c r)) by rw [hn]; rfl]
  have e2 : gV V c = k0_pay6 (k0_pay4 (iblk0 V c 1 t) (gsum V c t.val) (iblk0 V c 3 t)) := by
    rw [← e1, show t.val + 1 = 43 by omega]; rfl
  rw [e2]
  rw [e1]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (lora_last c (grid0.coords t) _ _ _ _ _ _ _ _ _ _ _ _ _ _ _ _ _ _ hc0 hc1 (iblk0 V c 0 t) (iblk0 V c 1 t) (iblk0 V c 2 t) (iblk0 V c 3 t) (xaV V c) (gsum V c t.val) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [HS0]; · iexact HS0
  iintro ⟨H0, H1, H2, H3, H4, H5, H6, H7, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body at `t`. -/
theorem defs₀_row0 (t : Fin cfg0.N) :
    defs₀ (F := F) .tc cfg0.body (cfg0.bodyArgs t (cfg0.slots t)) = bodyAt0 t := by
  unfold defs₀; rw [Defs.onTc_tc]

/-- The body does at every point what the data say. -/
theorem body_obligation0 (c : Dev nD) : BodyObligation (dat0 (F := F) V c) (defs₀ (F := F)) Variants.none () Set.univ := fun t => by
  rw [bigSep_W0, bigSep_W0, defs₀_row0]
  have key : bodyPre0 V c t ⊢ wp frame (wpE (defs₀ (F := F)) Variants.none c none) Set.univ (bodyAt0 t) (fun _ => bodyPost0 V c t) := by
    by_cases h : t.val % 43 = 0
    · exact sound_body0_first V c t h
    · by_cases h' : t.val % 43 = 42
      · exact sound_body0_last V c t h h'
      · exact sound_body0_middle V c t h h'
  exact triple_restated key rfl .rfl fun _ => .rfl

end Region

end Cert.Kernel.Hand

end
-- ==== Proof.KernelMainBody.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.KernelLoraBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The accumulator before trip `k`: the adapter's term at the start, then per trip the chunk of `dy` times the tile of
    dequantised weights the trip has written. -/
def accM (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec F S1024x11008 .bf16) (x1 : Vec F S256x11008 .i8) (x2 : Vec F S8x11008 .bf16) (x3 : Vec F S512x64 .bf16) (x4 : Vec F S1024x64 .bf16) (x5 : Vec F S16x128 .bf16) : ℕ → Vec F S1024x512 .f32
  | 0 => k1_pay1 x4 x3
  | k + 1 =>
    if h : k < k1_t1_loop.trips then
      k1_pay3 (accM arg1 harg1 arg2 harg2 arg3 harg3 arg4 harg4 arg5 harg5 arg6 harg6 arg7 harg7 arg8 harg8 arg9 harg9 x0 x1 x2 x3 x4 x5 k)
        (View.readAt (Elt F) arg1.view (Rect.unit (s := S1024x11008) (k1_off17 ⟨k, h⟩) S1024x256.size (k1_off17_inb ⟨k, h⟩)).toLoadRect (harg1.unread x0))
        (trip_k1_t1.sl.v2437 arg2 arg3 arg6 arg8 (harg2.unread x1) (harg3.unread x2) (harg6.unread x5) ⟨k, h⟩)
    else accM arg1 harg1 arg2 harg2 arg3 harg3 arg4 harg4 arg5 harg5 arg6 harg6 arg7 harg7 arg8 harg8 arg9 harg9 x0 x1 x2 x3 x4 x5 k

set_option maxHeartbeats 4000000 in
/-- One trip stores the whole accumulator, at what it found there plus its product. -/
theorem trip_acc (c : Dev nD) (i : grid1.Coords) (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec F S1024x11008 .bf16) (x1 : Vec F S256x11008 .i8) (x2 : Vec F S8x11008 .bf16) (x3 : Vec F S512x64 .bf16) (x4 : Vec F S1024x64 .bf16) (x5 : Vec F S16x128 .bf16) (k : ℕ) (h : k < k1_t1_loop.trips) (f8 : BufTy.Contents (Elt F) arg8.view.ty) (f9 : BufTy.Contents (Elt F) arg9.view.ty) :
    arg9.view.read (Elt F) (arg9.view.writes (Elt F) f9
      ((trip_k1_t1 (F := F) Variants.none c none i arg1 harg1 arg2 harg2 arg3 harg3 arg4 harg4 arg5 harg5 arg6 harg6 arg7 harg7 arg8 harg8 arg9 harg9 (harg1.unread x0) (harg2.unread x1) (harg3.unread x2) (harg6.unread x5) ⟨k, h⟩).2.1 f8 f9))
      = k1_pay3 (arg9.view.read (Elt F) f9)
        (View.readAt (Elt F) arg1.view (Rect.unit (s := S1024x11008) (k1_off17 ⟨k, h⟩) S1024x256.size (k1_off17_inb ⟨k, h⟩)).toLoadRect (harg1.unread x0))
        (trip_k1_t1.sl.v2437 arg2 arg3 arg6 arg8 (harg2.unread x1) (harg3.unread x2) (harg6.unread x5) ⟨k, h⟩) := by
  unfold trip_k1_t1
  dsimp only
  exact (View.read_writes_full _ _ _ _ _).trans (congrFun (congrFun (congrArg k1_pay3 (View.readAt_full _ _ _)) _) _)

set_option maxHeartbeats 1000000 in
/-- After `k` trips the accumulator's buffer holds `accM k`. -/
theorem acc_read (c : Dev nD) (i : grid1.Coords) (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec F S1024x11008 .bf16) (x1 : Vec F S256x11008 .i8) (x2 : Vec F S8x11008 .bf16) (x3 : Vec F S512x64 .bf16) (x4 : Vec F S1024x64 .bf16) (x5 : Vec F S16x128 .bf16) (G8 : BufTy.Contents (Elt F) arg8.view.ty) (G9 : BufTy.Contents (Elt F) arg9.view.ty)
    (h0 : arg9.view.read (Elt F) G9 = k1_pay1 x4 x3) (k : ℕ) (hk : k ≤ k1_t1_loop.trips) :
    arg9.view.read (Elt F) (arg9.view.writes (Elt F) G9
      (pb_k1_t1 (F := F) Variants.none c none i arg1 harg1 arg2 harg2 arg3 harg3 arg4 harg4 arg5 harg5 arg6 harg6 arg7 harg7 arg8 harg8 arg9 harg9 (harg1.unread x0) (harg2.unread x1) (harg3.unread x2) (harg6.unread x5) G8 G9 k).2)
      = accM arg1 harg1 arg2 harg2 arg3 harg3 arg4 harg4 arg5 harg5 arg6 harg6 arg7 harg7 arg8 harg8 arg9 harg9 x0 x1 x2 x3 x4 x5 k := by
  induction k with
  | zero => exact h0
  | succ k ih =>
    have h : k < k1_t1_loop.trips := hk
    rw [pb_k1_t1_succ (F := F) Variants.none c none i arg1 harg1 arg2 harg2 arg3 harg3 arg4 harg4 arg5 harg5 arg6 harg6 arg7 harg7 arg8 harg8 arg9 harg9 (harg1.unread x0) (harg2.unread x1) (harg3.unread x2) (harg6.unread x5) G8 G9 ⟨k, h⟩]
    dsimp only
    rw [View.writes_append, trip_acc c i arg1 harg1 arg2 harg2 arg3 harg3 arg4 harg4 arg5 harg5 arg6 harg6 arg7 harg7 arg8 harg8 arg9 harg9 x0 x1 x2 x3 x4 x5 k h, ih (le_of_lt h), accM, dif_pos h]

set_option maxHeartbeats 4000000 in
/-- THE BODY OF THE SECOND CALL computes its block of `dx`, the rounded accumulator after all the trips; the two scratch
    buffers are left at something. -/
theorem main_body (c : Dev nD) (i : grid1.Coords) (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec F S1024x11008 .bf16) (x1 : Vec F S256x11008 .i8) (x2 : Vec F S8x11008 .bf16) (x3 : Vec F S512x64 .bf16) (x4 : Vec F S1024x64 .bf16) (x5 : Vec F S16x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay4 (accM arg1 harg1 arg2 harg2 arg3 harg3 arg4 harg4 arg5 harg5 arg6 harg6 arg7 harg7 arg8 harg8 arg9 harg9 x0 x1 x2 x3 x4 x5 k1_t1_loop.trips)) ∗ (∃ d, owns (c : Thread nD τ) arg8 fullShare d) ∗ (∃ d, owns (c : Thread nD τ) arg9 fullShare d)) -∗ K ⟨⟩))
    ⊢ wp frame (wpE (defs₀ (F := F)) Variants.none c none) E (cc1_main i arg1 harg1 arg2 harg2 arg3 harg3 arg4 harg4 arg5 harg5 arg6 harg6 arg7 harg7 arg8 harg8 arg9 harg9) K := by
  simp only [cc1_main_eq_skeleton]; unfold cc1_main_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine (View.read_writes_full _ _ _ _ _).trans (congrArg k1_pay4 ?_)
    refine (View.readAt_full _ _ _).trans ?_
    refine (congrArg (arg9.view.read (Elt F)) (View.writes_append _ _ _ _)).trans ?_
    refine acc_read c i arg1 harg1 arg2 harg2 arg3 harg3 arg4 harg4 arg5 harg5 arg6 harg6 arg7 harg7 arg8 harg8 arg9 harg9 x0 x1 x2 x3 x4 x5 _ _ ?_ _ le_rfl
    exact (View.read_writes_full _ _ _ _ _).trans (congr (congrArg k1_pay1 (ld_whole harg5 x4 _)) (ld_whole harg4 x3 _))
  isplitl [H8]
  · iexists _, _; isplitr; swap; · iexact H8
    ipureintro; rfl
  iexists _, _; isplitr; swap; · iexact H9
  ipureintro; rfl

end Cert.Kernel.Hand

end
-- ==== Proof.KernelMain.lean ====
module

public import proofs.«01_k».proof.Proof.Gen.Kernel.Launch
public import proofs.«01_k».proof.Proof.Gen.Kernel.Skeleton
public import proofs.«01_k».proof.Proof.Gen.Kernel.Points
public import proofs.«01_k».proof.Proof.KernelMainBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region
/-! The contents of the TensorCore's buffers when the call is entered: everything below is stated at them. -/
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, for any proof data that leave it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, for any proof data that leave it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, for any proof data that leave it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's buffer holds its block at every point, for any proof data that leave it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's buffer holds its block at every point, for any proof data that leave it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's buffer holds its block at every point, for any proof data that leave it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- The buffer of window 0 at point `t`, and that it is a whole buffer. -/
abbrev ms1_0 (t : Fin cfg1.N) : Memref sig .tc .vmem S1024x11008 .bf16 := win1_0.stage (cfg1.slots t 0)
abbrev hs1_0 (t : Fin cfg1.N) : (ms1_0 t).IsWhole := hstage1_0 ((cfg1.slots t 0).cast nbuf1_0)
/-- The buffer of window 1 at point `t`, and that it is a whole buffer. -/
abbrev ms1_1 (t : Fin cfg1.N) : Memref sig .tc .vmem S256x11008 .i8 := win1_1.stage (cfg1.slots t 1)
abbrev hs1_1 (t : Fin cfg1.N) : (ms1_1 t).IsWhole := hstage1_1 ((cfg1.slots t 1).cast nbuf1_1)
/-- The buffer of window 2 at point `t`, and that it is a whole buffer. -/
abbrev ms1_2 (t : Fin cfg1.N) : Memref sig .tc .vmem S8x11008 .bf16 := win1_2.stage (cfg1.slots t 2)
abbrev hs1_2 (t : Fin cfg1.N) : (ms1_2 t).IsWhole := hstage1_2 ((cfg1.slots t 2).cast nbuf1_2)
/-- The buffer of window 3 at point `t`, and that it is a whole buffer. -/
abbrev ms1_3 (t : Fin cfg1.N) : Memref sig .tc .vmem S512x64 .bf16 := win1_3.stage (cfg1.slots t 3)
abbrev hs1_3 (t : Fin cfg1.N) : (ms1_3 t).IsWhole := hstage1_3 ((cfg1.slots t 3).cast nbuf1_3)
/-- The buffer of window 4 at point `t`, and that it is a whole buffer. -/
abbrev ms1_4 (t : Fin cfg1.N) : Memref sig .tc .vmem S1024x64 .bf16 := win1_4.stage (cfg1.slots t 4)
abbrev hs1_4 (t : Fin cfg1.N) : (ms1_4 t).IsWhole := hstage1_4 ((cfg1.slots t 4).cast nbuf1_4)
/-- The buffer of window 5 at point `t`, and that it is a whole buffer. -/
abbrev ms1_5 (t : Fin cfg1.N) : Memref sig .tc .vmem S16x128 .bf16 := win1_5.stage (cfg1.slots t 5)
abbrev hs1_5 (t : Fin cfg1.N) : (ms1_5 t).IsWhole := hstage1_5 ((cfg1.slots t 5).cast nbuf1_5)
/-- The buffer of window 6 at point `t`, and that it is a whole buffer. -/
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)
/-- The two scratch buffers: the tile of dequantised weights and the accumulator. -/
abbrev scM1_0 : Memref sig .tc .vmem S512x256 .bf16 := Memref.whole cc1_scratch0
abbrev scM1_1 : Memref sig .tc .vmem S1024x512 .f32 := Memref.whole cc1_scratch1

/-- What the second call is entered with: every scoped buffer it does not stage through, its scratch buffers among them, at
    some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The accumulator at point `t` before trip `k`. -/
def accAt (c : Dev nD) (t : Fin cfg1.N) (k : ℕ) : Vec F S1024x512 .f32 :=
  accM (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t) k

/-- The block of `dx` computed at point `t`. -/
def dxAt (c : Dev nD) (t : Fin cfg1.N) : Vec F S1024x512 .bf16 := k1_pay4 (accAt V c t k1_t1_loop.trips)

/-- The second call's proof data: the inputs' buffers hold their blocks, `dx`'s the block computed at the point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => dxAt V c t
  Φ _ := Pipeline.ΦA spec1 c
  q _ := fullShare
  owed _ := 0

/-- The arrays are those the call is entered with. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = dxAt V c t := by dsimp only [dat1]

/-- Input window 0's buffer holds its block at every point. -/
theorem before1_0 (c : Dev nD) (t : Fin cfg1.N) (d) : (dat1 V c).before 0 t d = iblk1 V c 0 t :=
  before1_0_of V (dat1 V c) (A_eq1 V c 0) (after1_0 V c) t d
/-- Input window 1's buffer holds its block at every point. -/
theorem before1_1 (c : Dev nD) (t : Fin cfg1.N) (d) : (dat1 V c).before 1 t d = iblk1 V c 1 t :=
  before1_1_of V (dat1 V c) (A_eq1 V c 1) (after1_1 V c) t d
/-- Input window 2's buffer holds its block at every point. -/
theorem before1_2 (c : Dev nD) (t : Fin cfg1.N) (d) : (dat1 V c).before 2 t d = iblk1 V c 2 t :=
  before1_2_of V (dat1 V c) (A_eq1 V c 2) (after1_2 V c) t d
/-- Input window 3's buffer holds its block at every point. -/
theorem before1_3 (c : Dev nD) (t : Fin cfg1.N) (d) : (dat1 V c).before 3 t d = iblk1 V c 3 t :=
  before1_3_of V (dat1 V c) (A_eq1 V c 3) (after1_3 V c) t d
/-- Input window 4's buffer holds its block at every point. -/
theorem before1_4 (c : Dev nD) (t : Fin cfg1.N) (d) : (dat1 V c).before 4 t d = iblk1 V c 4 t :=
  before1_4_of V (dat1 V c) (A_eq1 V c 4) (after1_4 V c) t d
/-- Input window 5's buffer holds its block at every point. -/
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold dxAt accAt
  iintro ⟨⟨⟨HR0, HR1, HR2, HR3, HR4, HR5, HR6, HR7, HR8, HR9, HR10, HR11, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (main_body c (grid1.coords t) _ _ _ _ _ _ _ _ _ _ _ _ _ _ _ _ _ _ (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HR0 HR1 HR2 HR3 HR4 HR5 HR6 HR7 HR8 HR9 HR10 HR11 HS0 HS1 Hg]
  · isplitl [HR0 HR1 HR2 HR3 HR4 HR5 HR6 HR7 HR8 HR9 HR10 HR11 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body at `t`. -/
theorem defs₀_row1 (t : Fin cfg1.N) :
    defs₀ (F := F) .tc cfg1.body (cfg1.bodyArgs t (cfg1.slots t)) = bodyAt1 t := by
  unfold defs₀; rw [Defs.onTc_tc]

/-- The body does at every point what the data say. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.Kernel.Hand

end
-- ==== Proof.KernelRun.lean ====
module

public import proofs.«01_k».proof.Proof.Gen.Kernel.Launch
public import proofs.«01_k».proof.Proof.Gen.Kernel.Skeleton
public import proofs.«01_k».proof.Proof.Gen.Kernel.Points
public import proofs.«01_k».proof.Proof.KernelLora
public import proofs.«01_k».proof.Proof.KernelMain
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section PhiLast
variable (V : (c : Dev nD) → (b : Ref sig .tc) → Buf (Elt F) ((c : Thread nD τ).loc b))

/-- The first call's last state gives back its scoped buffers, the running sum's among them, at something. -/
theorem PhiS_last (c : Dev nD) : (dat0 V c).Φ (Fin.last _) ⊢ (Pipeline.ΦA spec0 c : sProp 𝕄) := by
  rw [show (dat0 V c).Φ (Fin.last _) = PhiS V c cfg0.N from rfl, show cfg0.N = 42 + 1 from N_0,
    show PhiS V c (42 + 1) = iprop(iprop(owns (c : Thread nD τ) scM0_0 fullShare (gsum V c (42 + 1)) ∗ Rest0 c) ∗ (∃ r, prngReg c r)) from rfl,
    PhiA0_eq]
  iintro ⟨⟨HS, HR⟩, Hg⟩
  isplitl [HS HR]
  · isplitl [HS]; · iexists _; iexact HS
    iexact HR
  iexact Hg

end PhiLast

section Run
variable (m : (ℓ : Loc nD τ sig) → Buf (Elt F) ℓ) (ρ : Dev nD → PrngReg)
/-! # THE RUN: @main's segments from the launch to the return  -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_v2, main_v3, main_v4, main_v5, main_v6, main_v7, main_v8]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered  (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered . -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (PhiS_last (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN, at any `F`: every weakly fair execution of @main terminates without a fault; every buffer that outlives the calls
    ends at its contents `W4`, and every semaphore counter is at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

/-- THE FRAME, at any `F`: every weakly fair execution of @main terminates without a fault, every final state has the
    argument arrays as launched, and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun s h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c)⟩, h.2⟩) (run m ρ)

end Run

end Cert.Kernel.Hand

end
-- ==== Proof.KernelIdealLoraBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A load of a whole buffer that holds `x` reads `x`. -/
theorem ld_whole {s : Shape} {e : EltTy} {m : Memref sig .tc .vmem s e} (h : m.IsWhole) (x : Vec F s e) {off : Fin s.rank → ℕ}
    (inb : ∀ a, off a + s.size a ≤ s.size a) :
    View.readAt (Elt F) m.view (Rect.unit off s.size inb).toLoadRect (h.unread x) = x :=
  (View.readAt_full _ _ inb).trans (h.read_unread x)

set_option maxHeartbeats 1000000 in
/-- AT THE FIRST POINT the body computes `xa = x·a`, clears the running sum, adds the first chunk's product to it and
    writes the first chunk of `db`. The two outputs of the last point are not touched. -/
theorem lora_first (c : Dev nD) (i : grid0.Coords) (arg1 : Memref sig .tc .vmem S1024x4096 .bf16) (harg1 : arg1.IsWhole)
    (arg2 : Memref sig .tc .vmem S1024x256 .bf16) (harg2 : arg2.IsWhole)
    (arg3 : Memref sig .tc .vmem S4096x64 .bf16) (harg3 : arg3.IsWhole)
    (arg4 : Memref sig .tc .vmem S64x256 .bf16) (harg4 : arg4.IsWhole)
    (arg5 : Memref sig .tc .vmem S4096x64 .f32) (harg5 : arg5.IsWhole)
    (arg6 : Memref sig .tc .vmem S64x256 .f32) (harg6 : arg6.IsWhole)
    (arg7 : Memref sig .tc .vmem S1024x64 .bf16) (harg7 : arg7.IsWhole)
    (arg8 : Memref sig .tc .vmem S1024x64 .bf16) (harg8 : arg8.IsWhole)
    (arg9 : Memref sig .tc .vmem S1024x64 .f32) (harg9 : arg9.IsWhole)
    (hc0 : k0_cond1 i = 1#1) (hc1 : ¬ k0_cond2 i = 1#1)
    (x0 : Vec F S1024x4096 .bf16) (x1 : Vec F S1024x256 .bf16) (x2 : Vec F S4096x64 .bf16) (x3 : Vec F S64x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay5 x1 (k0_pay1 x0 x2)) ∗ owns (c : Thread nD τ) arg8 fullShare (k0_pay1 x0 x2) ∗ owns (c : Thread nD τ) arg9 fullShare (k0_pay4 x1 k0_pay2 x3)) -∗ K ⟨⟩))
    ⊢ wp frame (wpE (defs₀ (F := F)) Variants.none c none) E (cc0_lora i arg1 harg1 arg2 harg2 arg3 harg3 arg4 harg4 arg5 harg5 arg6 harg6 arg7 harg7 arg8 harg8 arg9 harg9) K := by
  simp only [cc0_lora_eq_skeleton]; unfold cc0_lora_skel
  unfold owns
  iintro ⟨⟨%f1, %hf1, H1⟩, ⟨%f2, %hf2, H2⟩, ⟨%f3, %hf3, H3⟩, ⟨%f4, %hf4, H4⟩, ⟨%d6, %f6, -, H6⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H6]
  · iexists _; isplitr; swap; · iexact H6
    ipureintro
    exact (View.read_writes_full _ _ _ _ _).trans (congr (congrArg k0_pay5 (ld_whole harg2 x1 _)) ((View.readCov_full _ _ _ _ _).trans (congr (congrArg k0_pay1 (ld_whole harg1 x0 _)) (ld_whole harg3 x2 _))))
  isplitl [H8]
  · iexists _; isplitr; swap; · iexact H8
    ipureintro
    exact (View.read_writes_full _ _ _ _ _).trans ((congr (congrArg k0_pay1 (ld_whole harg1 x0 _)) (ld_whole harg3 x2 _)))
  iexists _; isplitr; swap; · iexact H9
  ipureintro
  exact (View.read_writes_full _ _ _ _ _).trans (congr (congr (congrArg k0_pay4 (ld_whole harg2 x1 _)) (View.readCov_full _ _ _ _ _)) (ld_whole harg4 x3 _))

set_option maxHeartbeats 1000000 in
/-- AT A MIDDLE POINT the body adds the chunk's product to the running sum `s` and writes the chunk of `db` from the `xa`
    it finds. -/
theorem lora_middle (c : Dev nD) (i : grid0.Coords) (arg1 : Memref sig .tc .vmem S1024x4096 .bf16) (harg1 : arg1.IsWhole)
    (arg2 : Memref sig .tc .vmem S1024x256 .bf16) (harg2 : arg2.IsWhole)
    (arg3 : Memref sig .tc .vmem S4096x64 .bf16) (harg3 : arg3.IsWhole)
    (arg4 : Memref sig .tc .vmem S64x256 .bf16) (harg4 : arg4.IsWhole)
    (arg5 : Memref sig .tc .vmem S4096x64 .f32) (harg5 : arg5.IsWhole)
    (arg6 : Memref sig .tc .vmem S64x256 .f32) (harg6 : arg6.IsWhole)
    (arg7 : Memref sig .tc .vmem S1024x64 .bf16) (harg7 : arg7.IsWhole)
    (arg8 : Memref sig .tc .vmem S1024x64 .bf16) (harg8 : arg8.IsWhole)
    (arg9 : Memref sig .tc .vmem S1024x64 .f32) (harg9 : arg9.IsWhole)
    (hc0 : ¬ k0_cond1 i = 1#1) (hc1 : ¬ k0_cond2 i = 1#1)
    (x0 : Vec F S1024x4096 .bf16) (x1 : Vec F S1024x256 .bf16) (x2 : Vec F S4096x64 .bf16) (x3 : Vec F S64x256 .bf16) (xa : Vec F S1024x64 .bf16) (s : Vec F S1024x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg8 fullShare xa ∗ owns (c : Thread nD τ) arg9 fullShare s
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay5 x1 xa) ∗ owns (c : Thread nD τ) arg8 fullShare xa ∗ owns (c : Thread nD τ) arg9 fullShare (k0_pay4 x1 s x3)) -∗ K ⟨⟩))
    ⊢ wp frame (wpE (defs₀ (F := F)) Variants.none c none) E (cc0_lora i arg1 harg1 arg2 harg2 arg3 harg3 arg4 harg4 arg5 harg5 arg6 harg6 arg7 harg7 arg8 harg8 arg9 harg9) K := by
  simp only [cc0_lora_eq_skeleton]; unfold cc0_lora_skel
  unfold owns
  iintro ⟨⟨%f1, %hf1, H1⟩, ⟨%f2, %hf2, H2⟩, ⟨%f3, %hf3, H3⟩, ⟨%f4, %hf4, H4⟩, ⟨%d6, %f6, -, H6⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg8.eq_unread hf8; obtain rfl := harg9.eq_unread hf9
  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H6]
  · iexists _; isplitr; swap; · iexact H6
    ipureintro
    exact (View.read_writes_full _ _ _ _ _).trans (congr (congrArg k0_pay5 (ld_whole harg2 x1 _)) (ld_whole harg8 xa _))
  isplitl [H8]
  · iexists _; isplitr; swap; · iexact H8
    ipureintro
    exact harg8.read_unread _
  iexists _; isplitr; swap; · iexact H9
  ipureintro
  exact (View.read_writes_full _ _ _ _ _).trans (congr (congr (congrArg k0_pay4 (ld_whole harg2 x1 _)) (ld_whole harg9 s _)) (ld_whole harg4 x3 _))

set_option maxHeartbeats 1000000 in
/-- AT THE LAST POINT the body does what it does at a middle point, then rounds the finished sum to `g` and writes
    `da` from it. -/
theorem lora_last (c : Dev nD) (i : grid0.Coords) (arg1 : Memref sig .tc .vmem S1024x4096 .bf16) (harg1 : arg1.IsWhole)
    (arg2 : Memref sig .tc .vmem S1024x256 .bf16) (harg2 : arg2.IsWhole)
    (arg3 : Memref sig .tc .vmem S4096x64 .bf16) (harg3 : arg3.IsWhole)
    (arg4 : Memref sig .tc .vmem S64x256 .bf16) (harg4 : arg4.IsWhole)
    (arg5 : Memref sig .tc .vmem S4096x64 .f32) (harg5 : arg5.IsWhole)
    (arg6 : Memref sig .tc .vmem S64x256 .f32) (harg6 : arg6.IsWhole)
    (arg7 : Memref sig .tc .vmem S1024x64 .bf16) (harg7 : arg7.IsWhole)
    (arg8 : Memref sig .tc .vmem S1024x64 .bf16) (harg8 : arg8.IsWhole)
    (arg9 : Memref sig .tc .vmem S1024x64 .f32) (harg9 : arg9.IsWhole)
    (hc0 : ¬ k0_cond1 i = 1#1) (hc1 : k0_cond2 i = 1#1)
    (x0 : Vec F S1024x4096 .bf16) (x1 : Vec F S1024x256 .bf16) (x2 : Vec F S4096x64 .bf16) (x3 : Vec F S64x256 .bf16) (xa : Vec F S1024x64 .bf16) (s : Vec F S1024x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xa ∗ owns (c : Thread nD τ) arg9 fullShare s
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay7 x0 (k0_pay6 (k0_pay4 x1 s x3))) ∗ owns (c : Thread nD τ) arg6 fullShare (k0_pay5 x1 xa) ∗ owns (c : Thread nD τ) arg7 fullShare (k0_pay6 (k0_pay4 x1 s x3)) ∗ owns (c : Thread nD τ) arg8 fullShare xa ∗ owns (c : Thread nD τ) arg9 fullShare (k0_pay4 x1 s x3)) -∗ K ⟨⟩))
    ⊢ wp frame (wpE (defs₀ (F := F)) Variants.none c none) E (cc0_lora i arg1 harg1 arg2 harg2 arg3 harg3 arg4 harg4 arg5 harg5 arg6 harg6 arg7 harg7 arg8 harg8 arg9 harg9) K := by
  simp only [cc0_lora_eq_skeleton]; unfold cc0_lora_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg8.eq_unread hf8; obtain rfl := harg9.eq_unread hf9
  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact (View.read_writes_full _ _ _ _ _).trans (congr (congrArg k0_pay7 (ld_whole harg1 x0 _)) ((View.readCov_full _ _ _ _ _).trans (congrArg k0_pay6 ((View.readCov_full _ _ _ _ _).trans (congr (congr (congrArg k0_pay4 (ld_whole harg2 x1 _)) (ld_whole harg9 s _)) (ld_whole harg4 x3 _))))))
  isplitl [H6]
  · iexists _; isplitr; swap; · iexact H6
    ipureintro
    exact (View.read_writes_full _ _ _ _ _).trans (congr (congrArg k0_pay5 (ld_whole harg2 x1 _)) (ld_whole harg8 xa _))
  isplitl [H7]
  · iexists _; isplitr; swap; · iexact H7
    ipureintro
    exact (View.read_writes_full _ _ _ _ _).trans (congrArg k0_pay6 ((View.readCov_full _ _ _ _ _).trans (congr (congr (congrArg k0_pay4 (ld_whole harg2 x1 _)) (ld_whole harg9 s _)) (ld_whole harg4 x3 _))))
  isplitl [H8]
  · iexists _; isplitr; swap; · iexact H8
    ipureintro
    exact harg8.read_unread _
  iexists _; isplitr; swap; · iexact H9
  ipureintro
  exact (View.read_writes_full _ _ _ _ _).trans (congr (congr (congrArg k0_pay4 (ld_whole harg2 x1 _)) (ld_whole harg9 s _)) (ld_whole harg4 x3 _))

end Cert.KernelIdeal.Hand

end
-- ==== Proof.KernelIdealLora.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealLoraBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
/-! The contents of the TensorCore's buffers when the call is entered: everything below is stated at them. -/
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The buffer of window 0 at point `t`, and that it is a whole buffer. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
/-- The buffer of window 1 at point `t`, and that it is a whole buffer. -/
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
/-- The buffer of window 2 at point `t`, and that it is a whole buffer. -/
abbrev ms0_2 (t : Fin cfg0.N) : Memref sig .tc .vmem S4096x64 .bf16 := win0_2.stage (cfg0.slots t 2)
abbrev hs0_2 (t : Fin cfg0.N) : (ms0_2 t).IsWhole := hstage0_2 ((cfg0.slots t 2).cast nbuf0_2)
/-- The buffer of window 3 at point `t`, and that it is a whole buffer. -/
abbrev ms0_3 (t : Fin cfg0.N) : Memref sig .tc .vmem S64x256 .bf16 := win0_3.stage (cfg0.slots t 3)
abbrev hs0_3 (t : Fin cfg0.N) : (ms0_3 t).IsWhole := hstage0_3 ((cfg0.slots t 3).cast nbuf0_3)
/-- The buffer of window 4 at point `t`, and that it is a whole buffer. -/
abbrev ms0_4 (t : Fin cfg0.N) : Memref sig .tc .vmem S4096x64 .f32 := win0_4.stage (cfg0.slots t 4)
abbrev hs0_4 (t : Fin cfg0.N) : (ms0_4 t).IsWhole := hstage0_4 ((cfg0.slots t 4).cast nbuf0_4)
/-- The buffer of window 5 at point `t`, and that it is a whole buffer. -/
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
/-- The buffer of window 6 at point `t`, and that it is a whole buffer. -/
abbrev ms0_6 (t : Fin cfg0.N) : Memref sig .tc .vmem S1024x64 .bf16 := win0_6.stage (cfg0.slots t 6)
abbrev hs0_6 (t : Fin cfg0.N) : (ms0_6 t).IsWhole := hstage0_6 ((cfg0.slots t 6).cast nbuf0_6)
/-- The buffer of window 7 at point `t`, and that it is a whole buffer. -/
abbrev ms0_7 (t : Fin cfg0.N) : Memref sig .tc .vmem S1024x64 .bf16 := win0_7.stage (cfg0.slots t 7)
abbrev hs0_7 (t : Fin cfg0.N) : (ms0_7 t).IsWhole := hstage0_7 ((cfg0.slots t 7).cast nbuf0_7)
/-- The running sum's buffer. -/
abbrev scM0_0 : Memref sig .tc .vmem S1024x64 .f32 := Memref.whole cc0_scratch0

/-- The scoped buffers the first call does not use, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the first call is entered with: the running sum's buffer and the rest of the scoped buffers at some contents, the
    generator register at some state. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

/-! ## The two conditions of the body -/

/-- The first condition holds at the first point only. -/
theorem cond1_iff : ∀ t : Fin cfg0.N, k0_cond1 (grid0.coords t) = 1#1 ↔ t.val % 43 = 0 :=
  (fun t => by
    have ht : t.val < 43 := Nat.lt_of_lt_of_eq t.isLt N_0
    have e0 : (grid0.coords t 0).val = t.val / 1 % 43 := Pipeline.Grid.coords_val t 0 (by decide) rfl
    simp only [k0_cond1, e0]
    word_cmp
   : ∀ t : Fin grid0.N, k0_cond1 (grid0.coords t) = 1#1 ↔ t.val % 43 = 0)

/-- The second condition holds at the last point only. -/
theorem cond2_iff : ∀ t : Fin cfg0.N, k0_cond2 (grid0.coords t) = 1#1 ↔ t.val % 43 = 42 :=
  (fun t => by
    have ht : t.val < 43 := Nat.lt_of_lt_of_eq t.isLt N_0
    have e0 : (grid0.coords t 0).val = t.val / 1 % 43 := Pipeline.Grid.coords_val t 0 (by decide) rfl
    simp only [k0_cond2, e0]
    word_cmp
   : ∀ t : Fin grid0.N, k0_cond2 (grid0.coords t) = 1#1 ↔ t.val % 43 = 42)

/-! ## What the call computes, point by point -/

theorem N0_pos : 0 < cfg0.N := lt_of_lt_of_eq (by decide : 0 < 43) (N_0 : cfg0.N = 43).symm

/-- `xa`, computed at the first point from the whole of `x` and `a`. -/
def xaV (c : Dev nD) : Vec F S1024x64 .bf16 := k0_pay1 (iblk0 V c 0 ⟨0, N0_pos⟩) (iblk0 V c 2 ⟨0, N0_pos⟩)

/-- The running sum after `n` points: zero, then one chunk's product added per point. -/
def gsum (c : Dev nD) : ℕ → Vec F S1024x64 .f32
  | 0 => k0_pay2
  | n + 1 => if h : n < cfg0.N then k0_pay4 (iblk0 V c 1 ⟨n, h⟩) (gsum c n) (iblk0 V c 3 ⟨n, h⟩) else gsum c n

theorem gsum_succ (c : Dev nD) (t : Fin cfg0.N) :
    gsum V c (t.val + 1) = k0_pay4 (iblk0 V c 1 t) (gsum V c t.val) (iblk0 V c 3 t) := by
  rw [gsum, dif_pos t.isLt]

/-- `g`, the finished sum rounded. -/
def gV (c : Dev nD) : Vec F S1024x64 .bf16 := k0_pay6 (gsum V c 43)

/-- The invariant before point `n`: the running sum's buffer at `gsum n` (at anything before the first point). -/
def PhiS (c : Dev nD) : ℕ → sProp 𝕄
  | 0 => Pipeline.ΦA spec0 c
  | n + 1 => iprop(iprop(owns (c : Thread nD τ) scM0_0 fullShare (gsum V c (n + 1)) ∗ Rest0 c) ∗ (∃ r, prngReg c r))

/-- The first call's proof data: after the body at point `t` the inputs' buffers hold their blocks; `db`'s buffer the chunk
    computed there; `xa`'s buffer `xa`; `g`'s and `da`'s, at the point that stores them, the final values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay7 (iblk0 V c 0 t) (gV V c)
    | ⟨5, _⟩ => k0_pay5 (iblk0 V c 1 t) (xaV V c)
    | ⟨6, _⟩ => gV V c
    | ⟨7, _⟩ => xaV V c
  Φ t := PhiS V c t.val
  q _ := fullShare
  owed _ := 0

/-- The arrays are those the call is entered with. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay7 (iblk0 V c 0 t) (gV V c) := by dsimp only [dat0]
theorem after0_5 (c : Dev nD) (t : Fin cfg0.N) : (dat0 V c).after 5 t = k0_pay5 (iblk0 V c 1 t) (xaV V c) := by dsimp only [dat0]
theorem after0_6 (c : Dev nD) (t : Fin cfg0.N) : (dat0 V c).after 6 t = gV V c := by dsimp only [dat0]
theorem after0_7 (c : Dev nD) (t : Fin cfg0.N) : (dat0 V c).after 7 t = xaV V c := by dsimp only [dat0]

/-- Input window 0's buffer holds its block at every point. -/
theorem before0_0 (c : Dev nD) (t : Fin cfg0.N) (d) : (dat0 V c).before 0 t d = iblk0 V c 0 t :=
  before0_0_of V (dat0 V c) (A_eq0 V c 0) (after0_0 V c) t d
/-- Input window 1's buffer holds its block at every point. -/
theorem before0_1 (c : Dev nD) (t : Fin cfg0.N) (d) : (dat0 V c).before 1 t d = iblk0 V c 1 t :=
  before0_1_of V (dat0 V c) (A_eq0 V c 1) (after0_1 V c) t d
/-- Input window 2's buffer holds its block at every point. -/
theorem before0_2 (c : Dev nD) (t : Fin cfg0.N) (d) : (dat0 V c).before 2 t d = iblk0 V c 2 t :=
  before0_2_of V (dat0 V c) (A_eq0 V c 2) (after0_2 V c) t d
/-- Input window 3's buffer holds its block at every point. -/
theorem before0_3 (c : Dev nD) (t : Fin cfg0.N) (d) : (dat0 V c).before 3 t d = iblk0 V c 3 t :=
  before0_3_of V (dat0 V c) (A_eq0 V c 3) (after0_3 V c) t d
/-- Window 4 is idle except at the last point; -/
theorem idle0_4 (t : Fin cfg0.N) (h : ¬ k0_cond2 (grid0.coords t) = 1#1) : cfg0.idle 4 (grid0.coords t) = true := by
  show (!(k0_cond2 (grid0.coords t) == 1#1)) = true
  simp [h]
/-- there it is stored. -/
theorem live0_4 (t : Fin cfg0.N) (h : k0_cond2 (grid0.coords t) = 1#1) : cfg0.idle 4 (grid0.coords t) = false := by
  show (!(k0_cond2 (grid0.coords t) == 1#1)) = false
  simp [h]
/-- Window 6 is idle except at the last point; -/
theorem idle0_6 (t : Fin cfg0.N) (h : ¬ k0_cond2 (grid0.coords t) = 1#1) : cfg0.idle 6 (grid0.coords t) = true := by
  show (!(k0_cond2 (grid0.coords t) == 1#1)) = true
  simp [h]
/-- there it is stored. -/
theorem live0_6 (t : Fin cfg0.N) (h : k0_cond2 (grid0.coords t) = 1#1) : cfg0.idle 6 (grid0.coords t) = false := by
  show (!(k0_cond2 (grid0.coords t) == 1#1)) = false
  simp [h]
/-- Window 7 is idle except at the first point; -/
theorem idle0_7 (t : Fin cfg0.N) (h : ¬ k0_cond1 (grid0.coords t) = 1#1) : cfg0.idle 7 (grid0.coords t) = true := by
  show (!(k0_cond1 (grid0.coords t) == 1#1)) = true
  simp [h]
/-- there it is stored. -/
theorem live0_7 (t : Fin cfg0.N) (h : k0_cond1 (grid0.coords t) = 1#1) : cfg0.idle 7 (grid0.coords t) = false := by
  show (!(k0_cond1 (grid0.coords t) == 1#1)) = false
  simp [h]

/-- A window written back at the last point only is not written back before. -/
theorem noflush {w : Fin cfg0.W} (hw : ∀ t : Fin cfg0.N, (cfg0.win w).flush t = true ↔ t.val % 43 = 42) (t : Fin cfg0.N)
    (h : ¬ t.val % 43 = 42) : (cfg0.win w).flush t = false :=
  Bool.eq_false_iff.mpr fun hf => h ((hw t).mp hf)

/-- After the first point `xa`'s buffer holds `xa`: it was stored there, and nothing has touched it since. -/
theorem before0_7 (c : Dev nD) (n : ℕ) : ∀ (t : Fin cfg0.N), t.val = n + 1 → ∀ d, (dat0 V c).before 7 t d = xaV V c := by
  have hN : cfg0.N = 43 := N_0
  induction n with
  | zero =>
    intro t ht d
    have hlt := t.isLt
    rw [Dat.before_of_pos (dat0 V c) 7 t (by omega) rfl d, noflush flush0_7 _ (by show ¬ (t.val - 1) % 43 = 42; omega),
      if_neg Bool.false_ne_true]
    unfold Dat.left
    rw [live0_7 _ ((cond1_iff _).mpr (by show (t.val - 1) % 43 = 0; omega))]
    exact after0_7 V c _
  | succ n ih =>
    intro t ht d
    have hlt := t.isLt
    rw [Dat.before_of_pos (dat0 V c) 7 t (by omega) rfl d, noflush flush0_7 _ (by show ¬ (t.val - 1) % 43 = 42; omega),
      if_neg Bool.false_ne_true]
    unfold Dat.left
    rw [idle0_7 _ (fun h => by have := (cond1_iff _).mp h; have h' : (t.val - 1) % 43 = 0 := this; omega)]
    exact ih ⟨t.val - 1, by omega⟩ (by show t.val - 1 = n + 1; omega) d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- A window that is not idle leaves what the data say. -/
theorem leaves_live (c : Dev nD) {w : Fin cfg0.W} {t : Fin cfg0.N} (h : cfg0.idle w (grid0.coords t) = false) :
    (dat0 V c).leavesExact w t = owns (c : Thread nD τ) ((cfg0.win w).stage (cfg0.slots t w)) fullShare ((dat0 V c).after w t) := by
  unfold Dat.leavesExact; rw [h]

/-- So does a window written back at the point. -/
theorem leaves_flush (c : Dev nD) {w : Fin cfg0.W} {t : Fin cfg0.N} (h : cfg0.idle w (grid0.coords t) = true)
    (hf : (cfg0.win w).flush t = true) :
    (dat0 V c).leavesExact w t = owns (c : Thread nD τ) ((cfg0.win w).stage (cfg0.slots t w)) fullShare ((dat0 V c).after w t) := by
  unfold Dat.leavesExact; rw [h, hf]

set_option maxHeartbeats 1600000 in
/-- The body at the first point. -/
theorem sound_body0_first (c : Dev nD) (t : Fin cfg0.N) (h : t.val % 43 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiS V c (t.val + 1) from rfl, show (dat0 V c).Φ t.castSucc = PhiS V c t.val from rfl,
    leaves_live V c (w := 0) (t := t) rfl, leaves_live V c (w := 1) (t := t) rfl, leaves_live V c (w := 2) (t := t) rfl,
    leaves_live V c (w := 3) (t := t) rfl, leaves_live V c (w := 5) (t := t) rfl,
    after0_0, after0_1, after0_2, after0_3, after0_5]
  have hN : t.val < 43 := lt_of_lt_of_eq t.isLt N_0
  have ht0 : t = ⟨0, N0_pos⟩ := Fin.ext (by show t.val = 0; omega)
  have hc0 := (cond1_iff t).mpr h
  have hc1 : ¬ k0_cond2 (grid0.coords t) = 1#1 := fun e => by have := (cond2_iff t).mp e; omega
  rw [Dat.leavesExact_idle _ 4 t (idle0_4 t hc1) (noflush flush0_4 t (by omega)),
    Dat.leavesExact_idle _ 6 t (idle0_6 t hc1) (noflush flush0_6 t (by omega)),
    leaves_live V c (live0_7 t hc0), after0_7]
  have e1 : k0_pay4 (iblk0 V c 1 t) k0_pay2 (iblk0 V c 3 t) = gsum V c (t.val + 1) := by
    rw [gsum_succ, show t.val = 0 by omega]; rfl
  have e2 : k0_pay1 (iblk0 V c 0 t) (iblk0 V c 2 t) = xaV V c := by subst ht0; rfl
  rw [show PhiS V c t.val = Pipeline.ΦA spec0 c by rw [show t.val = 0 by omega]; rfl, PhiA0_eq, ← e2, PhiS, ← e1]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (lora_first c (grid0.coords t) _ _ _ _ _ _ _ _ _ _ _ _ _ _ _ _ _ _ hc0 hc1 (iblk0 V c 0 t) (iblk0 V c 1 t) (iblk0 V c 2 t) (iblk0 V c 3 t) Set.univ _)
  isplitl [H0]; · iexact H0
  isplitl [H1]; · iexact H1
  isplitl [H2]; · iexact H2
  isplitl [H3]; · iexact H3
  isplitl [H5]; · iexists _; iexact H5
  isplitl [H7]; · iexists _; iexact H7
  isplitl [HS0]; · iexact HS0
  iintro ⟨H0, H1, H2, H3, H5, H7, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  iexact H7

set_option maxHeartbeats 1600000 in
/-- The body at a middle point. -/
theorem sound_body0_middle (c : Dev nD) (t : Fin cfg0.N) (h : ¬ t.val % 43 = 0) (h' : ¬ t.val % 43 = 42) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiS V c (t.val + 1) from rfl, show (dat0 V c).Φ t.castSucc = PhiS V c t.val from rfl,
    leaves_live V c (w := 0) (t := t) rfl, leaves_live V c (w := 1) (t := t) rfl, leaves_live V c (w := 2) (t := t) rfl,
    leaves_live V c (w := 3) (t := t) rfl, leaves_live V c (w := 5) (t := t) rfl,
    after0_0, after0_1, after0_2, after0_3, after0_5]
  have hN : t.val < 43 := lt_of_lt_of_eq t.isLt N_0
  have hc0 : ¬ k0_cond1 (grid0.coords t) = 1#1 := fun e => h ((cond1_iff t).mp e)
  have hc1 : ¬ k0_cond2 (grid0.coords t) = 1#1 := fun e => h' ((cond2_iff t).mp e)
  rw [Dat.leavesExact_idle _ 4 t (idle0_4 t hc1) (noflush flush0_4 t h'),
    Dat.leavesExact_idle _ 6 t (idle0_6 t hc1) (noflush flush0_6 t h'),
    Dat.leavesExact_idle _ 7 t (idle0_7 t hc0) (noflush flush0_7 t h')]
  obtain ⟨n, hn⟩ : ∃ n, t.val = n + 1 := ⟨t.val - 1, by omega⟩
  have e7 := before0_7 V c n t hn
  simp only [e7]
  have e1 := gsum_succ V c t
  rw [show PhiS V c (t.val + 1) = iprop(iprop(owns (c : Thread nD τ) scM0_0 fullShare (gsum V c (t.val + 1)) ∗ Rest0 c) ∗ (∃ r, prngReg c r)) from rfl,
    show PhiS V c t.val = iprop(iprop(owns (c : Thread nD τ) scM0_0 fullShare (gsum V c t.val) ∗ Rest0 c) ∗ (∃ r, prngReg c r)) by rw [hn]; rfl]
  rw [e1]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (lora_middle c (grid0.coords t) _ _ _ _ _ _ _ _ _ _ _ _ _ _ _ _ _ _ hc0 hc1 (iblk0 V c 0 t) (iblk0 V c 1 t) (iblk0 V c 2 t) (iblk0 V c 3 t) (xaV V c) (gsum V c t.val) Set.univ _)
  isplitl [H0]; · iexact H0
  isplitl [H1]; · iexact H1
  isplitl [H2]; · iexact H2
  isplitl [H3]; · iexact H3
  isplitl [H5]; · iexists _; iexact H5
  isplitl [H7]; · iexact H7
  isplitl [HS0]; · iexact HS0
  iintro ⟨H0, H1, H2, H3, H5, H7, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  iexists d7; iexact H7

set_option maxHeartbeats 1600000 in
/-- The body at the last point. -/
theorem sound_body0_last (c : Dev nD) (t : Fin cfg0.N) (h : ¬ t.val % 43 = 0) (h' : t.val % 43 = 42) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiS V c (t.val + 1) from rfl, show (dat0 V c).Φ t.castSucc = PhiS V c t.val from rfl,
    leaves_live V c (w := 0) (t := t) rfl, leaves_live V c (w := 1) (t := t) rfl, leaves_live V c (w := 2) (t := t) rfl,
    leaves_live V c (w := 3) (t := t) rfl, leaves_live V c (w := 5) (t := t) rfl,
    after0_0, after0_1, after0_2, after0_3, after0_5]
  have hN : t.val < 43 := lt_of_lt_of_eq t.isLt N_0
  have hc0 : ¬ k0_cond1 (grid0.coords t) = 1#1 := fun e => h ((cond1_iff t).mp e)
  have hc1 : k0_cond2 (grid0.coords t) = 1#1 := (cond2_iff t).mpr h'
  rw [leaves_live V c (live0_4 t hc1), leaves_live V c (live0_6 t hc1),
    leaves_flush V c (idle0_7 t hc0) ((flush0_7 t).mpr h'), after0_4, after0_6, after0_7]
  obtain ⟨n, hn⟩ : ∃ n, t.val = n + 1 := ⟨t.val - 1, by omega⟩
  have e7 := before0_7 V c n t hn
  simp only [e7]
  have e1 := gsum_succ V c t
  rw [show PhiS V c (t.val + 1) = iprop(iprop(owns (c : Thread nD τ) scM0_0 fullShare (gsum V c (t.val + 1)) ∗ Rest0 c) ∗ (∃ r, prngReg c r)) from rfl,
    show PhiS V c t.val = iprop(iprop(owns (c : Thread nD τ) scM0_0 fullShare (gsum V c t.val) ∗ Rest0 c) ∗ (∃ r, prngReg c r)) by rw [hn]; rfl]
  have e2 : gV V c = k0_pay6 (k0_pay4 (iblk0 V c 1 t) (gsum V c t.val) (iblk0 V c 3 t)) := by
    rw [← e1, show t.val + 1 = 43 by omega]; rfl
  rw [e2]
  rw [e1]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (lora_last c (grid0.coords t) _ _ _ _ _ _ _ _ _ _ _ _ _ _ _ _ _ _ hc0 hc1 (iblk0 V c 0 t) (iblk0 V c 1 t) (iblk0 V c 2 t) (iblk0 V c 3 t) (xaV V c) (gsum V c t.val) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [HS0]; · iexact HS0
  iintro ⟨H0, H1, H2, H3, H4, H5, H6, H7, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body at `t`. -/
theorem defs₀_row0 (t : Fin cfg0.N) :
    defs₀ (F := F) .tc cfg0.body (cfg0.bodyArgs t (cfg0.slots t)) = bodyAt0 t := by
  unfold defs₀; rw [Defs.onTc_tc]

/-- The body does at every point what the data say. -/
theorem body_obligation0 (c : Dev nD) : BodyObligation (dat0 (F := F) V c) (defs₀ (F := F)) Variants.none () Set.univ := fun t => by
  rw [bigSep_W0, bigSep_W0, defs₀_row0]
  have key : bodyPre0 V c t ⊢ wp frame (wpE (defs₀ (F := F)) Variants.none c none) Set.univ (bodyAt0 t) (fun _ => bodyPost0 V c t) := by
    by_cases h : t.val % 43 = 0
    · exact sound_body0_first V c t h
    · by_cases h' : t.val % 43 = 42
      · exact sound_body0_last V c t h h'
      · exact sound_body0_middle V c t h h'
  exact triple_restated key rfl .rfl fun _ => .rfl

end Region

end Cert.KernelIdeal.Hand

end
-- ==== Proof.KernelIdealMainBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdealLoraBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The accumulator before trip `k`: the adapter's term at the start, then per trip the chunk of `dy` times the tile of
    dequantised weights the trip has written. -/
def accM (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec F S1024x11008 .bf16) (x1 : Vec F S256x11008 .i8) (x2 : Vec F S8x11008 .bf16) (x3 : Vec F S512x64 .bf16) (x4 : Vec F S1024x64 .bf16) (x5 : Vec F S16x128 .bf16) : ℕ → Vec F S1024x512 .f32
  | 0 => k1_pay1 x4 x3
  | k + 1 =>
    if h : k < k1_t1_loop.trips then
      k1_pay3 (accM arg1 harg1 arg2 harg2 arg3 harg3 arg4 harg4 arg5 harg5 arg6 harg6 arg7 harg7 arg8 harg8 arg9 harg9 x0 x1 x2 x3 x4 x5 k)
        (View.readAt (Elt F) arg1.view (Rect.unit (s := S1024x11008) (k1_off17 ⟨k, h⟩) S1024x256.size (k1_off17_inb ⟨k, h⟩)).toLoadRect (harg1.unread x0))
        (trip_k1_t1.sl.v2437 arg2 arg3 arg6 arg8 (harg2.unread x1) (harg3.unread x2) (harg6.unread x5) ⟨k, h⟩)
    else accM arg1 harg1 arg2 harg2 arg3 harg3 arg4 harg4 arg5 harg5 arg6 harg6 arg7 harg7 arg8 harg8 arg9 harg9 x0 x1 x2 x3 x4 x5 k

set_option maxHeartbeats 4000000 in
/-- One trip stores the whole accumulator, at what it found there plus its product. -/
theorem trip_acc (c : Dev nD) (i : grid1.Coords) (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec F S1024x11008 .bf16) (x1 : Vec F S256x11008 .i8) (x2 : Vec F S8x11008 .bf16) (x3 : Vec F S512x64 .bf16) (x4 : Vec F S1024x64 .bf16) (x5 : Vec F S16x128 .bf16) (k : ℕ) (h : k < k1_t1_loop.trips) (f8 : BufTy.Contents (Elt F) arg8.view.ty) (f9 : BufTy.Contents (Elt F) arg9.view.ty) :
    arg9.view.read (Elt F) (arg9.view.writes (Elt F) f9
      ((trip_k1_t1 (F := F) Variants.none c none i arg1 harg1 arg2 harg2 arg3 harg3 arg4 harg4 arg5 harg5 arg6 harg6 arg7 harg7 arg8 harg8 arg9 harg9 (harg1.unread x0) (harg2.unread x1) (harg3.unread x2) (harg6.unread x5) ⟨k, h⟩).2.1 f8 f9))
      = k1_pay3 (arg9.view.read (Elt F) f9)
        (View.readAt (Elt F) arg1.view (Rect.unit (s := S1024x11008) (k1_off17 ⟨k, h⟩) S1024x256.size (k1_off17_inb ⟨k, h⟩)).toLoadRect (harg1.unread x0))
        (trip_k1_t1.sl.v2437 arg2 arg3 arg6 arg8 (harg2.unread x1) (harg3.unread x2) (harg6.unread x5) ⟨k, h⟩) := by
  unfold trip_k1_t1
  dsimp only
  exact (View.read_writes_full _ _ _ _ _).trans (congrFun (congrFun (congrArg k1_pay3 (View.readAt_full _ _ _)) _) _)

set_option maxHeartbeats 1000000 in
/-- After `k` trips the accumulator's buffer holds `accM k`. -/
theorem acc_read (c : Dev nD) (i : grid1.Coords) (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec F S1024x11008 .bf16) (x1 : Vec F S256x11008 .i8) (x2 : Vec F S8x11008 .bf16) (x3 : Vec F S512x64 .bf16) (x4 : Vec F S1024x64 .bf16) (x5 : Vec F S16x128 .bf16) (G8 : BufTy.Contents (Elt F) arg8.view.ty) (G9 : BufTy.Contents (Elt F) arg9.view.ty)
    (h0 : arg9.view.read (Elt F) G9 = k1_pay1 x4 x3) (k : ℕ) (hk : k ≤ k1_t1_loop.trips) :
    arg9.view.read (Elt F) (arg9.view.writes (Elt F) G9
      (pb_k1_t1 (F := F) Variants.none c none i arg1 harg1 arg2 harg2 arg3 harg3 arg4 harg4 arg5 harg5 arg6 harg6 arg7 harg7 arg8 harg8 arg9 harg9 (harg1.unread x0) (harg2.unread x1) (harg3.unread x2) (harg6.unread x5) G8 G9 k).2)
      = accM arg1 harg1 arg2 harg2 arg3 harg3 arg4 harg4 arg5 harg5 arg6 harg6 arg7 harg7 arg8 harg8 arg9 harg9 x0 x1 x2 x3 x4 x5 k := by
  induction k with
  | zero => exact h0
  | succ k ih =>
    have h : k < k1_t1_loop.trips := hk
    rw [pb_k1_t1_succ (F := F) Variants.none c none i arg1 harg1 arg2 harg2 arg3 harg3 arg4 harg4 arg5 harg5 arg6 harg6 arg7 harg7 arg8 harg8 arg9 harg9 (harg1.unread x0) (harg2.unread x1) (harg3.unread x2) (harg6.unread x5) G8 G9 ⟨k, h⟩]
    dsimp only
    rw [View.writes_append, trip_acc c i arg1 harg1 arg2 harg2 arg3 harg3 arg4 harg4 arg5 harg5 arg6 harg6 arg7 harg7 arg8 harg8 arg9 harg9 x0 x1 x2 x3 x4 x5 k h, ih (le_of_lt h), accM, dif_pos h]

set_option maxHeartbeats 4000000 in
/-- THE BODY OF THE SECOND CALL computes its block of `dx`, the rounded accumulator after all the trips; the two scratch
    buffers are left at something. -/
theorem main_body (c : Dev nD) (i : grid1.Coords) (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec F S1024x11008 .bf16) (x1 : Vec F S256x11008 .i8) (x2 : Vec F S8x11008 .bf16) (x3 : Vec F S512x64 .bf16) (x4 : Vec F S1024x64 .bf16) (x5 : Vec F S16x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay4 (accM arg1 harg1 arg2 harg2 arg3 harg3 arg4 harg4 arg5 harg5 arg6 harg6 arg7 harg7 arg8 harg8 arg9 harg9 x0 x1 x2 x3 x4 x5 k1_t1_loop.trips)) ∗ (∃ d, owns (c : Thread nD τ) arg8 fullShare d) ∗ (∃ d, owns (c : Thread nD τ) arg9 fullShare d)) -∗ K ⟨⟩))
    ⊢ wp frame (wpE (defs₀ (F := F)) Variants.none c none) E (cc1_main i arg1 harg1 arg2 harg2 arg3 harg3 arg4 harg4 arg5 harg5 arg6 harg6 arg7 harg7 arg8 harg8 arg9 harg9) K := by
  simp only [cc1_main_eq_skeleton]; unfold cc1_main_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine (View.read_writes_full _ _ _ _ _).trans (congrArg k1_pay4 ?_)
    refine (View.readAt_full _ _ _).trans ?_
    refine (congrArg (arg9.view.read (Elt F)) (View.writes_append _ _ _ _)).trans ?_
    refine acc_read c i arg1 harg1 arg2 harg2 arg3 harg3 arg4 harg4 arg5 harg5 arg6 harg6 arg7 harg7 arg8 harg8 arg9 harg9 x0 x1 x2 x3 x4 x5 _ _ ?_ _ le_rfl
    exact (View.read_writes_full _ _ _ _ _).trans (congr (congrArg k1_pay1 (ld_whole harg5 x4 _)) (ld_whole harg4 x3 _))
  isplitl [H8]
  · iexists _, _; isplitr; swap; · iexact H8
    ipureintro; rfl
  iexists _, _; isplitr; swap; · iexact H9
  ipureintro; rfl

end Cert.KernelIdeal.Hand

end
-- ==== Proof.KernelIdealMain.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealMainBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
/-! The contents of the TensorCore's buffers when the call is entered: everything below is stated at them. -/
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, for any proof data that leave it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, for any proof data that leave it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, for any proof data that leave it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's buffer holds its block at every point, for any proof data that leave it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's buffer holds its block at every point, for any proof data that leave it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's buffer holds its block at every point, for any proof data that leave it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- The buffer of window 0 at point `t`, and that it is a whole buffer. -/
abbrev ms1_0 (t : Fin cfg1.N) : Memref sig .tc .vmem S1024x11008 .bf16 := win1_0.stage (cfg1.slots t 0)
abbrev hs1_0 (t : Fin cfg1.N) : (ms1_0 t).IsWhole := hstage1_0 ((cfg1.slots t 0).cast nbuf1_0)
/-- The buffer of window 1 at point `t`, and that it is a whole buffer. -/
abbrev ms1_1 (t : Fin cfg1.N) : Memref sig .tc .vmem S256x11008 .i8 := win1_1.stage (cfg1.slots t 1)
abbrev hs1_1 (t : Fin cfg1.N) : (ms1_1 t).IsWhole := hstage1_1 ((cfg1.slots t 1).cast nbuf1_1)
/-- The buffer of window 2 at point `t`, and that it is a whole buffer. -/
abbrev ms1_2 (t : Fin cfg1.N) : Memref sig .tc .vmem S8x11008 .bf16 := win1_2.stage (cfg1.slots t 2)
abbrev hs1_2 (t : Fin cfg1.N) : (ms1_2 t).IsWhole := hstage1_2 ((cfg1.slots t 2).cast nbuf1_2)
/-- The buffer of window 3 at point `t`, and that it is a whole buffer. -/
abbrev ms1_3 (t : Fin cfg1.N) : Memref sig .tc .vmem S512x64 .bf16 := win1_3.stage (cfg1.slots t 3)
abbrev hs1_3 (t : Fin cfg1.N) : (ms1_3 t).IsWhole := hstage1_3 ((cfg1.slots t 3).cast nbuf1_3)
/-- The buffer of window 4 at point `t`, and that it is a whole buffer. -/
abbrev ms1_4 (t : Fin cfg1.N) : Memref sig .tc .vmem S1024x64 .bf16 := win1_4.stage (cfg1.slots t 4)
abbrev hs1_4 (t : Fin cfg1.N) : (ms1_4 t).IsWhole := hstage1_4 ((cfg1.slots t 4).cast nbuf1_4)
/-- The buffer of window 5 at point `t`, and that it is a whole buffer. -/
abbrev ms1_5 (t : Fin cfg1.N) : Memref sig .tc .vmem S16x128 .bf16 := win1_5.stage (cfg1.slots t 5)
abbrev hs1_5 (t : Fin cfg1.N) : (ms1_5 t).IsWhole := hstage1_5 ((cfg1.slots t 5).cast nbuf1_5)
/-- The buffer of window 6 at point `t`, and that it is a whole buffer. -/
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)
/-- The two scratch buffers: the tile of dequantised weights and the accumulator. -/
abbrev scM1_0 : Memref sig .tc .vmem S512x256 .bf16 := Memref.whole cc1_scratch0
abbrev scM1_1 : Memref sig .tc .vmem S1024x512 .f32 := Memref.whole cc1_scratch1

/-- What the second call is entered with: every scoped buffer it does not stage through, its scratch buffers among them, at
    some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The accumulator at point `t` before trip `k`. -/
def accAt (c : Dev nD) (t : Fin cfg1.N) (k : ℕ) : Vec F S1024x512 .f32 :=
  accM (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t) k

/-- The block of `dx` computed at point `t`. -/
def dxAt (c : Dev nD) (t : Fin cfg1.N) : Vec F S1024x512 .bf16 := k1_pay4 (accAt V c t k1_t1_loop.trips)

/-- The second call's proof data: the inputs' buffers hold their blocks, `dx`'s the block computed at the point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => dxAt V c t
  Φ _ := Pipeline.ΦA spec1 c
  q _ := fullShare
  owed _ := 0

/-- The arrays are those the call is entered with. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = dxAt V c t := by dsimp only [dat1]

/-- Input window 0's buffer holds its block at every point. -/
theorem before1_0 (c : Dev nD) (t : Fin cfg1.N) (d) : (dat1 V c).before 0 t d = iblk1 V c 0 t :=
  before1_0_of V (dat1 V c) (A_eq1 V c 0) (after1_0 V c) t d
/-- Input window 1's buffer holds its block at every point. -/
theorem before1_1 (c : Dev nD) (t : Fin cfg1.N) (d) : (dat1 V c).before 1 t d = iblk1 V c 1 t :=
  before1_1_of V (dat1 V c) (A_eq1 V c 1) (after1_1 V c) t d
/-- Input window 2's buffer holds its block at every point. -/
theorem before1_2 (c : Dev nD) (t : Fin cfg1.N) (d) : (dat1 V c).before 2 t d = iblk1 V c 2 t :=
  before1_2_of V (dat1 V c) (A_eq1 V c 2) (after1_2 V c) t d
/-- Input window 3's buffer holds its block at every point. -/
theorem before1_3 (c : Dev nD) (t : Fin cfg1.N) (d) : (dat1 V c).before 3 t d = iblk1 V c 3 t :=
  before1_3_of V (dat1 V c) (A_eq1 V c 3) (after1_3 V c) t d
/-- Input window 4's buffer holds its block at every point. -/
theorem before1_4 (c : Dev nD) (t : Fin cfg1.N) (d) : (dat1 V c).before 4 t d = iblk1 V c 4 t :=
  before1_4_of V (dat1 V c) (A_eq1 V c 4) (after1_4 V c) t d
/-- Input window 5's buffer holds its block at every point. -/
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold dxAt accAt
  iintro ⟨⟨⟨HR0, HR1, HR2, HR3, HR4, HR5, HR6, HR7, HR8, HR9, HR10, HR11, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (main_body c (grid1.coords t) _ _ _ _ _ _ _ _ _ _ _ _ _ _ _ _ _ _ (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HR0 HR1 HR2 HR3 HR4 HR5 HR6 HR7 HR8 HR9 HR10 HR11 HS0 HS1 Hg]
  · isplitl [HR0 HR1 HR2 HR3 HR4 HR5 HR6 HR7 HR8 HR9 HR10 HR11 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body at `t`. -/
theorem defs₀_row1 (t : Fin cfg1.N) :
    defs₀ (F := F) .tc cfg1.body (cfg1.bodyArgs t (cfg1.slots t)) = bodyAt1 t := by
  unfold defs₀; rw [Defs.onTc_tc]

/-- The body does at every point what the data say. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Hand

end
-- ==== Proof.KernelIdealRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealLora
public import proofs.«01_k».proof.Proof.KernelIdealMain
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section PhiLast
variable (V : (c : Dev nD) → (b : Ref sig .tc) → Buf (Elt F) ((c : Thread nD τ).loc b))

/-- The first call's last state gives back its scoped buffers, the running sum's among them, at something. -/
theorem PhiS_last (c : Dev nD) : (dat0 V c).Φ (Fin.last _) ⊢ (Pipeline.ΦA spec0 c : sProp 𝕄) := by
  rw [show (dat0 V c).Φ (Fin.last _) = PhiS V c cfg0.N from rfl, show cfg0.N = 42 + 1 from N_0,
    show PhiS V c (42 + 1) = iprop(iprop(owns (c : Thread nD τ) scM0_0 fullShare (gsum V c (42 + 1)) ∗ Rest0 c) ∗ (∃ r, prngReg c r)) from rfl,
    PhiA0_eq]
  iintro ⟨⟨HS, HR⟩, Hg⟩
  isplitl [HS HR]
  · isplitl [HS]; · iexists _; iexact HS
    iexact HR
  iexact Hg

end PhiLast

section Run
variable (m : (ℓ : Loc nD τ sig) → Buf (Elt F) ℓ) (ρ : Dev nD → PrngReg)
/-! # THE RUN: @main's segments from the launch to the return  -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_v2, main_v3, main_v4, main_v5, main_v6, main_v7, main_v8]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered  (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered . -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (PhiS_last (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN, at any `F`: every weakly fair execution of @main terminates without a fault; every buffer that outlives the calls
    ends at its contents `W4`, and every semaphore counter is at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

/-- THE FRAME, at any `F`: every weakly fair execution of @main terminates without a fault, every final state has the
    argument arrays as launched, and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun s h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c)⟩, h.2⟩) (run m ρ)

end Run

end Cert.KernelIdeal.Hand

end
-- ==== Proof.KernelIdealBytes.lean ====
module

public import proofs.«01_k».proof.Proof.Gen.KernelIdeal.Skeleton
public import Idealize.ShloMosaic.Lib.Pointwise
public import Idealize.ShloMosaic.Lib.Bf16Pair
public import Idealize.ShloMosaic.Lib.BitcastFour

/-! # The byte-wise index arithmetic of the dequantisation

The body reads four rows of one-byte codes as one 32-bit word, masks and shifts the word, and reads its four bytes
back. Here: what each of the four results is at one byte, as a function of that byte's own code alone. -/

@[expose] public section

set_option maxRecDepth 16384

noncomputable section

namespace Cert.KernelIdeal.Hand

open Cert.KernelIdeal.Gen
open Idealize.ShloMosaic

/-- The word row a byte row lies in. -/
theorem srcIdx_byte (i : Fin 32) (l : Fin 128) (p : ℕ) (hp) :
    Shape.Bitcasts.srcIdx bitcasts_S8x128_w32_S32x128_w8 (ix2 i l) p hp = ix2 ⟨p, hp 0 rfl⟩ l := by
  funext a; fin_cases a <;> rfl

/-- Bit `q` of byte row `i` is bit `8 (i % 4) + q` of word row `i / 4`. -/
theorem byte_getLsbD (f : IVec S8x128 32) (i : Fin 32) (l : Fin 128) (q : ℕ) (hq : q < 8) :
    (bitcast S32x128 8 f bitcasts_S8x128_w32_S32x128_w8 (ix2 i l)).getLsbD q
      = (f (ix2 ⟨i / 4, by omega⟩ l)).getLsbD (8 * (i % 4) + q) := by
  rw [bitcast_getLsbD _ _ _ q hq (by decide), srcIdx_byte]
  have hr : S32x128.row (ix2 i l) = i.val := rfl
  have e1 : (i.val * 8 + q) / 32 = i.val / 4 := by omega
  have e2 : (i.val * 8 + q) % 32 = 8 * (i.val % 4) + q := by omega
  simp only [hr, e1, e2]
  rfl

/-- Bit `8 (i % 4) + q` of the word row of byte row `i` is bit `q` of that byte. -/
theorem word_getLsbD (x : IVec S32x128 8) (i : Fin 32) (l : Fin 128) (q : ℕ) (hq : q < 8) :
    (bitcast S8x128 32 x bitcasts_S32x128_w8_S8x128_w32 (ix2 ⟨i / 4, by omega⟩ l)).getLsbD (8 * (i % 4) + q)
      = (x (ix2 i l)).getLsbD q := by
  have h := bitcast_8_32_getLsbD_ix2 x bitcasts_S32x128_w8_S8x128_w32 ⟨i / 4, by omega⟩ l (8 * (i % 4) + q) (by omega) i
    (by show i.val = 4 * (i.val / 4) + (8 * (i.val % 4) + q) / 8; omega)
  rw [show (8 * (i.val % 4) + q) % 8 = q by omega] at h
  exact h

/-- The mask `0x07070707` is `7` in every byte. -/
theorem mask7 : ∀ (m : Fin 4) (q : Fin 8), (117901063#32).getLsbD (8 * m + q) = (7#8).getLsbD q := by decide

/-- The mask `0x10101010` is `16` in every byte. -/
theorem mask16 : ∀ (m : Fin 4) (q : Fin 8), (269488144#32).getLsbD (8 * m + q) = (16#8).getLsbD q := by decide

/-- `idx_lo`: the low three bits of the code. -/
theorem idxLo_apply (x : IVec S32x128 8) (i : Fin 32) (l : Fin 128) :
    k1_pay9 (F := Ideal) x (ix2 i l) = (x (ix2 i l) &&& 7#8).signExtend 32 := by
  pointwise [k1_pay9, k1_pay8]
  congr 1
  apply BitVec.eq_of_getLsbD_eq
  intro q hq
  rw [byte_getLsbD _ _ _ _ hq, BitVec.getLsbD_and, ← word_getLsbD x i l q hq, ← mask7 ⟨i % 4, by omega⟩ ⟨q, hq⟩]
  exact BitVec.getLsbD_and

/-- `idx_hi`: the three bits above the low half. -/
theorem idxHi_apply (x : IVec S32x128 8) (i : Fin 32) (l : Fin 128) :
    k1_pay10 (F := Ideal) x (ix2 i l) = ((x (ix2 i l) >>> 4) &&& 7#8).signExtend 32 := by
  pointwise [k1_pay10, k1_pay8]
  congr 1
  apply BitVec.eq_of_getLsbD_eq
  intro q hq
  rw [byte_getLsbD _ _ _ _ hq, BitVec.getLsbD_and, ← mask7 ⟨i % 4, by omega⟩ ⟨q, hq⟩]
  refine BitVec.getLsbD_and.trans ?_
  by_cases h3 : q < 3
  · congr 1
    rw [BitVec.getLsbD_ushiftRight, ← word_getLsbD x i l (4 + q) (by omega)]
    refine (BitVec.getLsbD_sshiftRight _ 4 _).trans ?_
    rw [if_pos (by omega), show 4 + (8 * (i.val % 4) + q) = 8 * (i.val % 4) + (4 + q) by omega, decide_eq_false (by omega)]
    simp
  · have h0 : (7#8).getLsbD q = false := by interval_cases q <;> simp_all <;> rfl
    have h1 := mask7 ⟨i % 4, by omega⟩ ⟨q, hq⟩
    rw [h0] at h1
    refine (congrArg _ h1).trans ?_
    rw [h1]; simp

/-- `down`: bit four is the code's bit three, every other bit is clear. -/
theorem down_apply (x : IVec S32x128 8) (i : Fin 32) (l : Fin 128) :
    k1_pay11 (F := Ideal) x (ix2 i l) = ((x (ix2 i l) <<< 1) &&& 16#8).signExtend 32 := by
  pointwise [k1_pay11, k1_pay8]
  congr 1
  apply BitVec.eq_of_getLsbD_eq
  intro q hq
  rw [byte_getLsbD _ _ _ _ hq, BitVec.getLsbD_and, ← mask16 ⟨i % 4, by omega⟩ ⟨q, hq⟩]
  refine BitVec.getLsbD_and.trans ?_
  by_cases h3 : q = 4
  · congr 1
    subst h3
    rw [BitVec.getLsbD_shiftLeft, ← word_getLsbD x i l (4 - 1) (by omega)]
    refine (BitVec.getLsbD_shiftLeft _ 1).trans ?_
    rw [show 8 * (i.val % 4) + 4 - 1 = 8 * (i.val % 4) + (4 - 1) by omega, decide_eq_true (by omega), decide_eq_false (by omega)]
    simp
  · have h0 : (16#8).getLsbD q = false := by interval_cases q <;> simp_all <;> rfl
    have h1 := mask16 ⟨i % 4, by omega⟩ ⟨q, hq⟩
    rw [h0] at h1
    refine (congrArg _ h1).trans ?_
    rw [h1]; simp

/-- `up`: bit four is the complement of the code's bit seven, every other bit is clear. -/
theorem up_apply (x : IVec S32x128 8) (i : Fin 32) (l : Fin 128) :
    k1_pay12 (F := Ideal) x (ix2 i l) = (((x (ix2 i l) >>> 3) &&& 16#8) ^^^ 16#8).signExtend 32 := by
  pointwise [k1_pay12, k1_pay8]
  congr 1
  apply BitVec.eq_of_getLsbD_eq
  intro q hq
  rw [byte_getLsbD _ _ _ _ hq, BitVec.getLsbD_xor, BitVec.getLsbD_and, ← mask16 ⟨i % 4, by omega⟩ ⟨q, hq⟩]
  refine BitVec.getLsbD_xor.trans (congrArg (fun b => b ^^ _) (BitVec.getLsbD_and.trans ?_))
  by_cases h3 : q = 4
  · congr 1
    subst h3
    rw [BitVec.getLsbD_ushiftRight, ← word_getLsbD x i l (3 + 4) (by omega)]
    refine (BitVec.getLsbD_sshiftRight _ 3 _).trans ?_
    rw [if_pos (by omega), show 3 + (8 * (i.val % 4) + 4) = 8 * (i.val % 4) + (3 + 4) by omega, decide_eq_false (by omega)]
    simp
  · have h0 : (16#8).getLsbD q = false := by interval_cases q <;> simp_all <;> rfl
    have h1 := mask16 ⟨i % 4, by omega⟩ ⟨q, hq⟩
    rw [h0] at h1
    refine (congrArg _ h1).trans ?_
    rw [h1]; simp

/-- What the four results say of a code `k`: the two gather rows, and when the two shifts are zero. -/
theorem code_facts : ∀ k : Fin 256,
    (((BitVec.ofFin k : BitVec 8) &&& 7#8).signExtend 32).toNat % 8 = k.val % 16 % 8
    ∧ ((((BitVec.ofFin k : BitVec 8) >>> 4) &&& 7#8).signExtend 32).toNat % 8 = k.val / 16 % 8
    ∧ (IntOp.cmpi .eq ((((BitVec.ofFin k : BitVec 8) <<< 1) &&& 16#8).signExtend 32) 0#32 = 1#1 ↔ k.val % 16 / 8 = 0)
    ∧ (IntOp.cmpi .eq (((((BitVec.ofFin k : BitVec 8) >>> 3) &&& 16#8) ^^^ 16#8).signExtend 32) 0#32 = 1#1 ↔ k.val / 16 / 8 ≠ 0) := by
  decide +kernel

end Cert.KernelIdeal.Hand
-- ==== Proof.KernelIdealDequant.lean ====
module

public import proofs.«01_k».proof.Proof.KernelIdealBytes

/-! # What the dequantisation of one block computes

`dq codes am tb` is the 64 × 128 block the body stores: rows `2j` and `2j + 1` are the table's entries at the low and the
high half of code row `j`, scaled by the block's `absmax` row. The table's sixteen rows come interleaved: row `2k + h` is
entry `8h + k`. -/

@[expose] public section

set_option maxRecDepth 16384

noncomputable section

namespace Cert.KernelIdeal.Hand

open Cert.KernelIdeal.Gen
open Idealize.ShloMosaic

variable {F : FTy → Type} [FloatOps F]

/-- Eight code rows' sixteen weight rows, from row `o 0` of the codes on: `lo` and `hi` are the scaled table's even and odd rows. -/
def dqPiece (o : Fin 2 → ℕ) (h : S32x128.Slices o S8x128) (lo hi : FVec F S8x128 .f32)
    (i1 i2 d1 d2 : IVec S32x128 32) : FVec F S16x128 .bf16 :=
  interleaveRows S16x128
    (truncf .bf16 (select (cmpi .eq (extractStridedSlice S8x128 o d1 h) (broadcast S8x128 0#32))
      (dynamicGather 0 lo (shapeCast S8x128 (shapeCast S8x128x1 (extractStridedSlice S8x128 o i1 h) shapeCasts_S8x128_S8x128x1) shapeCasts_S8x128x1_S8x128))
      (dynamicGather 0 hi (shapeCast S8x128 (shapeCast S8x128x1 (extractStridedSlice S8x128 o i1 h) shapeCasts_S8x128_S8x128x1) shapeCasts_S8x128x1_S8x128))) bitsLt_bf16_f32)
    (truncf .bf16 (select (cmpi .eq (extractStridedSlice S8x128 o d2 h) (broadcast S8x128 0#32))
      (dynamicGather 0 hi (shapeCast S8x128 (shapeCast S8x128x1 (extractStridedSlice S8x128 o i2 h) shapeCasts_S8x128_S8x128x1) shapeCasts_S8x128x1_S8x128))
      (dynamicGather 0 lo (shapeCast S8x128 (shapeCast S8x128x1 (extractStridedSlice S8x128 o i2 h) shapeCasts_S8x128_S8x128x1) shapeCasts_S8x128x1_S8x128))) bitsLt_bf16_f32)
    bitcasts_S16x128_w16_S8x128_w32

/-- The same from the loaded codes, `absmax` row and table. -/
def dqRows (o : Fin 2 → ℕ) (h : S32x128.Slices o S8x128) (codes : Vec F S32x128 .i8) (am : Vec F S1x128 .bf16)
    (tb : Vec F S16x128 .bf16) : FVec F S16x128 .bf16 :=
  dqPiece o h (k1_pay13 (k1_pay6 am tb)) (k1_pay14 (k1_pay7 am tb)) (k1_pay9 codes) (k1_pay10 codes) (k1_pay11 codes) (k1_pay12 codes)

/-- One dequantised block. -/
def dq (codes : Vec F S32x128 .i8) (am : Vec F S1x128 .bf16) (tb : Vec F S16x128 .bf16) : FVec F S64x128 .bf16 :=
  shapeCast S64x128 (concatenate S64x128 0 [⟨S16x128, dqRows ![0, 0] slices_S32x128_o0_0_S8x128 codes am tb⟩, ⟨S16x128, dqRows ![8, 0] slices_S32x128_o8_0_S8x128 codes am tb⟩, ⟨S16x128, dqRows ![16, 0] slices_S32x128_o16_0_S8x128 codes am tb⟩, ⟨S16x128, dqRows ![24, 0] slices_S32x128_o24_0_S8x128 codes am tb⟩] concatenates_S16x128_S16x128_S16x128_S16x128_S64x128_d0) shapeCasts_S64x128_S64x128

/-- The table row of half `p` (0 low, 1 high) of a code. -/
def nf4Row (p : ℕ) (c : BitVec 8) : Fin 16 :=
  if p = 0 then ⟨2 * (c.toNat % 16 % 8) + c.toNat % 16 / 8, by have := c.isLt; omega⟩
  else ⟨2 * (c.toNat / 16 % 8) + c.toNat / 16 / 8, by have := c.isLt; omega⟩

/-- A select on a one-bit condition, as an `if`. -/
theorem select_iff {α : Type} (c : BitVec 1) (P : Prop) [Decidable P] (h : c = 1#1 ↔ P) (x y : α) :
    Scalar.select c x y = if P then x else y := by
  unfold Scalar.select
  by_cases hp : P
  · rw [if_pos hp]; exact if_pos (h.mpr hp)
  · rw [if_neg hp]; exact if_neg (mt h.mp hp)

/-- The facts of Bytes at a code. -/
theorem code_facts' (c : BitVec 8) :
    ((c &&& 7#8).signExtend 32).toNat % 8 = c.toNat % 16 % 8
    ∧ (((c >>> 4) &&& 7#8).signExtend 32).toNat % 8 = c.toNat / 16 % 8
    ∧ (IntOp.cmpi .eq (((c <<< 1) &&& 16#8).signExtend 32) 0#32 = 1#1 ↔ c.toNat % 16 / 8 = 0)
    ∧ (IntOp.cmpi .eq ((((c >>> 3) &&& 16#8) ^^^ 16#8).signExtend 32) 0#32 = 1#1 ↔ c.toNat / 16 / 8 ≠ 0) :=
  code_facts c.toFin

/-- One eight-row piece at a row and a lane: the row of the scaled table that the two index words and the two shifts name. -/
theorem dqPiece_apply (o : ℕ) (h : S32x128.Slices ![o, 0] S8x128) (lo hi : FVec Ideal S8x128 .f32)
    (i1 i2 d1 d2 : IVec S32x128 32) (i : Fin 16) (l : Fin 128) (j : Fin 32) (hj : j.val = o + i / 2)
    (n1 n2 : Fin 8) (hn1 : (i1 (ix2 j l)).toNat % 8 = n1.val) (hn2 : (i2 (ix2 j l)).toNat % 8 = n2.val) :
    dqPiece (F := Ideal) ![o, 0] h lo hi i1 i2 d1 d2 (ix2 i l)
      = if i.val % 2 = 0 then
          Scalar.select (IntOp.cmpi .eq (d1 (ix2 j l)) 0#32) (lo (ix2 n1 l)) (hi (ix2 n1 l))
        else Scalar.select (IntOp.cmpi .eq (d2 (ix2 j l)) 0#32) (hi (ix2 n2 l)) (lo (ix2 n2 l)) := by
  have hb : o + i.val / 2 < 32 := hj ▸ j.isLt
  obtain rfl : j = ⟨o + i.val / 2, hb⟩ := Fin.ext hj
  pointwise [dqPiece]
  simp only [hn1, hn2, Fin.eta]

/-- The scaled table's even rows. -/
theorem lo_apply (am : Vec Ideal S1x128 .bf16) (tb : Vec Ideal S16x128 .bf16) (k : Fin 8) (l : Fin 128) :
    k1_pay13 (F := Ideal) (k1_pay6 am tb) (ix2 k l) = tb (ix2 ⟨2 * k, by omega⟩ l) * am (ix2 0 l) := by
  pointwise [k1_pay13, k1_pay6, k1_pay5]

/-- The scaled table's odd rows. -/
theorem hi_apply (am : Vec Ideal S1x128 .bf16) (tb : Vec Ideal S16x128 .bf16) (k : Fin 8) (l : Fin 128) :
    k1_pay14 (F := Ideal) (k1_pay7 am tb) (ix2 k l) = tb (ix2 ⟨2 * k + 1, by omega⟩ l) * am (ix2 0 l) := by
  pointwise [k1_pay14, k1_pay7, k1_pay5]

/-- One eight-row piece from the loaded blocks, at a row and a lane. -/
theorem dqRows_apply (o : ℕ) (h : S32x128.Slices ![o, 0] S8x128) (codes : Vec Ideal S32x128 .i8) (am : Vec Ideal S1x128 .bf16)
    (tb : Vec Ideal S16x128 .bf16) (i : Fin 16) (l : Fin 128) (j : Fin 32) (hj : j.val = o + i / 2) :
    dqRows (F := Ideal) ![o, 0] h codes am tb (ix2 i l) = tb (ix2 (nf4Row (i % 2) (codes (ix2 j l))) l) * am (ix2 0 l) := by
  have e1 := idxLo_apply codes j l
  have e2 := idxHi_apply codes j l
  have e3 := down_apply codes j l
  have e4 := up_apply codes j l
  generalize codes (ix2 j l) = c at *
  obtain ⟨h1, h2, h3, h4⟩ := code_facts' c
  have hlt := c.isLt
  unfold dqRows
  rw [dqPiece_apply o h _ _ _ _ _ _ i l j hj ⟨c.toNat % 16 % 8, by omega⟩ ⟨c.toNat / 16 % 8, by omega⟩
    (by rw [e1]; exact h1) (by rw [e2]; exact h2), e3, e4, select_iff _ _ h3, select_iff _ _ h4]
  simp only [lo_apply, hi_apply, nf4Row]
  split
  · split
    · rename_i h8; simp only [h8, Nat.add_zero]
    · rename_i h8
      have : c.toNat % 16 / 8 = 1 := by omega
      simp only [this]
  · split
    · rename_i h8
      have : c.toNat / 16 / 8 = 1 := by omega
      simp only [this]
    · rename_i h8
      have : c.toNat / 16 / 8 = 0 := by omega
      simp only [this, Nat.add_zero]

/-- THE DEQUANTISED BLOCK at a row and a lane: the table's entry at that row's half of the code, times the `absmax` row. -/
theorem dq_apply (codes : Vec Ideal S32x128 .i8) (am : Vec Ideal S1x128 .bf16) (tb : Vec Ideal S16x128 .bf16)
    (r : Fin 64) (l : Fin 128) :
    dq (F := Ideal) codes am tb (ix2 r l)
      = tb (ix2 (nf4Row (r % 2) (codes (ix2 ⟨r / 2, by omega⟩ l))) l) * am (ix2 0 l) := by
  pointwise [dq]
  split
  · rw [dqRows_apply 0 _ codes am tb _ l ⟨r / 2, by omega⟩ (by simp)]
  split
  · rw [dqRows_apply 8 _ codes am tb _ l ⟨r / 2, by omega⟩ (by simp; omega)]
    congr 4; simp; omega
  split
  · rw [dqRows_apply 16 _ codes am tb _ l ⟨r / 2, by omega⟩ (by simp; omega)]
    congr 4; simp; omega
  · rw [dqRows_apply 24 _ codes am tb _ l ⟨r / 2, by omega⟩ (by simp; omega)]
    congr 4; simp; omega

end Cert.KernelIdeal.Hand
-- ==== Proof.Nf4.lean ====
module

public import proofs.«01_k».proof.Proof.KernelIdealDequant

/-! # The four-bit code's value -/

@[expose] public section

set_option maxRecDepth 16384

noncomputable section

namespace Cert.Nf4

open Idealize.ShloMosaic

/-- The value of code `k`: entry `k` of the printed table of sixteen bfloat16 constants. -/
def nf4 (k : Fin 16) : EReal := FloatOps.ofBits (F := Ideal) .bf16 (Cert.KernelIdeal.lit0 k)

/-- The code of a packed byte at parity `p`: its low half for the even row, its high half for the odd row. -/
def nibble (p : ℕ) (c : BitVec 8) : Fin 16 := if p = 0 then ⟨c.toNat % 16, by omega⟩ else ⟨c.toNat / 16, by have := c.isLt; omega⟩

/-- The interleaved table keeps entry `8 h + k` in row `2 k + h`. -/
def entry (row : Fin 16) : Fin 16 := ⟨8 * (row % 2) + row / 2, by omega⟩

/-- The row the kernel reads for a byte holds the byte's code. -/
theorem entry_nf4Row (p : ℕ) (c : BitVec 8) : entry (Cert.KernelIdeal.Hand.nf4Row p c) = nibble p c := by
  have := c.isLt
  refine Fin.ext ?_
  unfold entry nibble Cert.KernelIdeal.Hand.nf4Row
  by_cases h : p = 0
  · rw [if_pos h, if_pos h]
    show 8 * ((2 * (c.toNat % 16 % 8) + c.toNat % 16 / 8) % 2) + (2 * (c.toNat % 16 % 8) + c.toNat % 16 / 8) / 2 = c.toNat % 16
    omega
  · rw [if_neg h, if_neg h]
    show 8 * ((2 * (c.toNat / 16 % 8) + c.toNat / 16 / 8) % 2) + (2 * (c.toNat / 16 % 8) + c.toNat / 16 / 8) / 2 = c.toNat / 16
    omega

end Cert.Nf4
-- ==== Proof.KernelIdealTile.lean ====
module

public import proofs.«01_k».proof.Proof.KernelIdealDequant
public import proofs.«01_k».proof.Proof.KernelIdealMainBody
public import Idealize.ShloMosaic.Lib.Pipeline.ValueKit.Tiles

/-! # The tile of dequantised weights one trip of the loop writes

A trip stores sixteen dequantised blocks, eight down and two across, and reads the whole tile back. `tile_apply` says what
the tile holds at row `d` and column `n`: the weight of model row `d` of this block and output column `256 k + n`. -/

@[expose] public section

set_option maxRecDepth 16384

noncomputable section

namespace Cert.KernelIdeal.Hand

open Cert.KernelIdeal.Gen
open Idealize.ShloMosaic

section Pieces
variable {F : FTy → Type} [FloatOps F]

/-- A load of 32 × 128 codes. -/
def ldC (arg2 : Memref sig .tc .vmem S256x11008 .i8) (X2 : arg2.view.ty.Contents (Elt F)) (off : Fin 2 → ℕ)
    (inb : ∀ a, off a + S32x128.size a ≤ S256x11008.size a) : Vec F S32x128 .i8 :=
  View.readAt (Elt F) arg2.view (Rect.unit (s := S256x11008) off S32x128.size inb).toLoadRect X2

/-- A load of 128 scales. -/
def ldA (arg3 : Memref sig .tc .vmem S8x11008 .bf16) (X3 : arg3.view.ty.Contents (Elt F)) (off : Fin 2 → ℕ)
    (inb : ∀ a, off a + S1x128.size a ≤ S8x11008.size a) : Vec F S1x128 .bf16 :=
  View.readAt (Elt F) arg3.view (Rect.unit (s := S8x11008) off S1x128.size inb).toLoadRect X3

/-- The load of the table. -/
def ldT (arg6 : Memref sig .tc .vmem S16x128 .bf16) (X6 : arg6.view.ty.Contents (Elt F)) : Vec F S16x128 .bf16 :=
  View.readAt (Elt F) arg6.view (Rect.unit (s := S16x128) ![0, 0] S16x128.size inb_S16x128_S16x128_0_0).toLoadRect X6

/-- The sixteen stores of a trip, newest first. -/
def tilePieces (arg2 : Memref sig .tc .vmem S256x11008 .i8) (arg3 : Memref sig .tc .vmem S8x11008 .bf16)
    (arg6 : Memref sig .tc .vmem S16x128 .bf16) (X2 : arg2.view.ty.Contents (Elt F)) (X3 : arg3.view.ty.Contents (Elt F))
    (X6 : arg6.view.ty.Contents (Elt F)) (k : Fin k1_t1_loop.trips) : List (View.Piece (Elt F) S512x256 .bf16) :=
  [⟨Rect.unit (s := S512x256) ![448, 128] S64x128.size inb_S512x256_S64x128_448_128, dq (ldC arg2 X2 (k1_off15 k 128#32) (k1_off15_inb k 1)) (ldA arg3 X3 (k1_off16 k 128#32) (k1_off16_inb k 1)) (ldT arg6 X6)⟩,
      ⟨Rect.unit (s := S512x256) ![384, 128] S64x128.size inb_S512x256_S64x128_384_128, dq (ldC arg2 X2 (k1_off13 k 128#32) (k1_off13_inb k 1)) (ldA arg3 X3 (k1_off14 k 128#32) (k1_off14_inb k 1)) (ldT arg6 X6)⟩,
      ⟨Rect.unit (s := S512x256) ![320, 128] S64x128.size inb_S512x256_S64x128_320_128, dq (ldC arg2 X2 (k1_off11 k 128#32) (k1_off11_inb k 1)) (ldA arg3 X3 (k1_off12 k 128#32) (k1_off12_inb k 1)) (ldT arg6 X6)⟩,
      ⟨Rect.unit (s := S512x256) ![256, 128] S64x128.size inb_S512x256_S64x128_256_128, dq (ldC arg2 X2 (k1_off9 k 128#32) (k1_off9_inb k 1)) (ldA arg3 X3 (k1_off10 k 128#32) (k1_off10_inb k 1)) (ldT arg6 X6)⟩,
      ⟨Rect.unit (s := S512x256) ![192, 128] S64x128.size inb_S512x256_S64x128_192_128, dq (ldC arg2 X2 (k1_off7 k 128#32) (k1_off7_inb k 1)) (ldA arg3 X3 (k1_off8 k 128#32) (k1_off8_inb k 1)) (ldT arg6 X6)⟩,
      ⟨Rect.unit (s := S512x256) ![128, 128] S64x128.size inb_S512x256_S64x128_128_128, dq (ldC arg2 X2 (k1_off5 k 128#32) (k1_off5_inb k 1)) (ldA arg3 X3 (k1_off6 k 128#32) (k1_off6_inb k 1)) (ldT arg6 X6)⟩,
      ⟨Rect.unit (s := S512x256) ![64, 128] S64x128.size inb_S512x256_S64x128_64_128, dq (ldC arg2 X2 (k1_off3 k 128#32) (k1_off3_inb k 1)) (ldA arg3 X3 (k1_off4 k 128#32) (k1_off4_inb k 1)) (ldT arg6 X6)⟩,
      ⟨Rect.unit (s := S512x256) ![0, 128] S64x128.size inb_S512x256_S64x128_0_128, dq (ldC arg2 X2 (k1_off1 k 128#32) (k1_off1_inb k 1)) (ldA arg3 X3 (k1_off2 k 128#32) (k1_off2_inb k 1)) (ldT arg6 X6)⟩,
      ⟨Rect.unit (s := S512x256) ![448, 0] S64x128.size inb_S512x256_S64x128_448_0, dq (ldC arg2 X2 (k1_off15 k 0#32) (k1_off15_inb k 0)) (ldA arg3 X3 (k1_off16 k 0#32) (k1_off16_inb k 0)) (ldT arg6 X6)⟩,
      ⟨Rect.unit (s := S512x256) ![384, 0] S64x128.size inb_S512x256_S64x128_384_0, dq (ldC arg2 X2 (k1_off13 k 0#32) (k1_off13_inb k 0)) (ldA arg3 X3 (k1_off14 k 0#32) (k1_off14_inb k 0)) (ldT arg6 X6)⟩,
      ⟨Rect.unit (s := S512x256) ![320, 0] S64x128.size inb_S512x256_S64x128_320_0, dq (ldC arg2 X2 (k1_off11 k 0#32) (k1_off11_inb k 0)) (ldA arg3 X3 (k1_off12 k 0#32) (k1_off12_inb k 0)) (ldT arg6 X6)⟩,
      ⟨Rect.unit (s := S512x256) ![256, 0] S64x128.size inb_S512x256_S64x128_256_0, dq (ldC arg2 X2 (k1_off9 k 0#32) (k1_off9_inb k 0)) (ldA arg3 X3 (k1_off10 k 0#32) (k1_off10_inb k 0)) (ldT arg6 X6)⟩,
      ⟨Rect.unit (s := S512x256) ![192, 0] S64x128.size inb_S512x256_S64x128_192_0, dq (ldC arg2 X2 (k1_off7 k 0#32) (k1_off7_inb k 0)) (ldA arg3 X3 (k1_off8 k 0#32) (k1_off8_inb k 0)) (ldT arg6 X6)⟩,
      ⟨Rect.unit (s := S512x256) ![128, 0] S64x128.size inb_S512x256_S64x128_128_0, dq (ldC arg2 X2 (k1_off5 k 0#32) (k1_off5_inb k 0)) (ldA arg3 X3 (k1_off6 k 0#32) (k1_off6_inb k 0)) (ldT arg6 X6)⟩,
      ⟨Rect.unit (s := S512x256) ![64, 0] S64x128.size inb_S512x256_S64x128_64_0, dq (ldC arg2 X2 (k1_off3 k 0#32) (k1_off3_inb k 0)) (ldA arg3 X3 (k1_off4 k 0#32) (k1_off4_inb k 0)) (ldT arg6 X6)⟩,
      ⟨Rect.unit (s := S512x256) ![0, 0] S64x128.size inb_S512x256_S64x128_0_0, dq (ldC arg2 X2 (k1_off1 k 0#32) (k1_off1_inb k 0)) (ldA arg3 X3 (k1_off2 k 0#32) (k1_off2_inb k 0)) (ldT arg6 X6)⟩]

set_option maxHeartbeats 4000000 in
/-- The stores the trip makes are these. -/
theorem pieces_eq (arg2 : Memref sig .tc .vmem S256x11008 .i8) (arg3 : Memref sig .tc .vmem S8x11008 .bf16)
    (arg6 : Memref sig .tc .vmem S16x128 .bf16) (X2 : arg2.view.ty.Contents (Elt F)) (X3 : arg3.view.ty.Contents (Elt F))
    (X6 : arg6.view.ty.Contents (Elt F)) (k : Fin k1_t1_loop.trips) :
    trip_k1_t1.sl.HW_arg8_16 arg2 arg3 arg6 X2 X3 X6 k = tilePieces arg2 arg3 arg6 X2 X3 X6 k := rfl

end Pieces

/-- The first column a load of the trip takes: the trip's 256 columns are two groups of 128. -/
theorem col0_eq : ∀ k : Fin k1_t1_loop.trips,
    (Scalar.indexCast (Scalar.addi (Scalar.muli (Scalar.addi 0#32 (Scalar.muli (Scf.iv 0#32 1#32 k.val) 1#32)) 256#32) 0#32)).toNat
      = 256 * k.val := by
  decide +kernel

/-- The first column of the second group. -/
theorem col1_eq : ∀ k : Fin k1_t1_loop.trips,
    (Scalar.indexCast (Scalar.addi (Scalar.muli (Scalar.addi 0#32 (Scalar.muli (Scf.iv 0#32 1#32 k.val) 1#32)) 256#32) 128#32)).toNat
      = 256 * k.val + 128 := by
  decide +kernel

/-- The first column of the trip's chunk of `dy`. -/
theorem off17_eq (k : Fin k1_t1_loop.trips) : k1_off17 k = ![0, 256 * k.val] :=
  congrArg (fun x => ![0, x]) ((by decide +kernel : ∀ k : Fin k1_t1_loop.trips,
    (Scalar.indexCast (Scalar.muli (Scalar.addi 0#32 (Scalar.muli (Scf.iv 0#32 1#32 k.val) 1#32)) 256#32)).toNat = 256 * k.val) k)

/-- There are 43 trips. -/
theorem trips_eq : k1_t1_loop.trips = 43 := by decide +kernel

/-! The offsets of the sixteen pairs of loads: `off1`, `off3`, … of the codes, `off2`, `off4`, … of the scales. -/

/-- Block 0's codes start at packed row 0, in the trip's two column halves. -/
theorem off1_eq (k : Fin k1_t1_loop.trips) : k1_off1 k 0#32 = ![0, 256 * k.val] ∧ k1_off1 k 128#32 = ![0, 256 * k.val + 128] :=
  ⟨congrArg (fun x => ![0, x]) (col0_eq k), congrArg (fun x => ![0, x]) (col1_eq k)⟩
/-- Block 0's scales are row 0, in the trip's two column halves. -/
theorem off2_eq (k : Fin k1_t1_loop.trips) : k1_off2 k 0#32 = ![0, 256 * k.val] ∧ k1_off2 k 128#32 = ![0, 256 * k.val + 128] :=
  ⟨congrArg (fun x => ![0, x]) (col0_eq k), congrArg (fun x => ![0, x]) (col1_eq k)⟩
/-- Block 1's codes start at packed row 32, in the trip's two column halves. -/
theorem off3_eq (k : Fin k1_t1_loop.trips) : k1_off3 k 0#32 = ![32, 256 * k.val] ∧ k1_off3 k 128#32 = ![32, 256 * k.val + 128] :=
  ⟨congrArg (fun x => ![32, x]) (col0_eq k), congrArg (fun x => ![32, x]) (col1_eq k)⟩
/-- Block 1's scales are row 1, in the trip's two column halves. -/
theorem off4_eq (k : Fin k1_t1_loop.trips) : k1_off4 k 0#32 = ![1, 256 * k.val] ∧ k1_off4 k 128#32 = ![1, 256 * k.val + 128] :=
  ⟨congrArg (fun x => ![1, x]) (col0_eq k), congrArg (fun x => ![1, x]) (col1_eq k)⟩
/-- Block 2's codes start at packed row 64, in the trip's two column halves. -/
theorem off5_eq (k : Fin k1_t1_loop.trips) : k1_off5 k 0#32 = ![64, 256 * k.val] ∧ k1_off5 k 128#32 = ![64, 256 * k.val + 128] :=
  ⟨congrArg (fun x => ![64, x]) (col0_eq k), congrArg (fun x => ![64, x]) (col1_eq k)⟩
/-- Block 2's scales are row 2, in the trip's two column halves. -/
theorem off6_eq (k : Fin k1_t1_loop.trips) : k1_off6 k 0#32 = ![2, 256 * k.val] ∧ k1_off6 k 128#32 = ![2, 256 * k.val + 128] :=
  ⟨congrArg (fun x => ![2, x]) (col0_eq k), congrArg (fun x => ![2, x]) (col1_eq k)⟩
/-- Block 3's codes start at packed row 96, in the trip's two column halves. -/
theorem off7_eq (k : Fin k1_t1_loop.trips) : k1_off7 k 0#32 = ![96, 256 * k.val] ∧ k1_off7 k 128#32 = ![96, 256 * k.val + 128] :=
  ⟨congrArg (fun x => ![96, x]) (col0_eq k), congrArg (fun x => ![96, x]) (col1_eq k)⟩
/-- Block 3's scales are row 3, in the trip's two column halves. -/
theorem off8_eq (k : Fin k1_t1_loop.trips) : k1_off8 k 0#32 = ![3, 256 * k.val] ∧ k1_off8 k 128#32 = ![3, 256 * k.val + 128] :=
  ⟨congrArg (fun x => ![3, x]) (col0_eq k), congrArg (fun x => ![3, x]) (col1_eq k)⟩
/-- Block 4's codes start at packed row 128, in the trip's two column halves. -/
theorem off9_eq (k : Fin k1_t1_loop.trips) : k1_off9 k 0#32 = ![128, 256 * k.val] ∧ k1_off9 k 128#32 = ![128, 256 * k.val + 128] :=
  ⟨congrArg (fun x => ![128, x]) (col0_eq k), congrArg (fun x => ![128, x]) (col1_eq k)⟩
/-- Block 4's scales are row 4, in the trip's two column halves. -/
theorem off10_eq (k : Fin k1_t1_loop.trips) : k1_off10 k 0#32 = ![4, 256 * k.val] ∧ k1_off10 k 128#32 = ![4, 256 * k.val + 128] :=
  ⟨congrArg (fun x => ![4, x]) (col0_eq k), congrArg (fun x => ![4, x]) (col1_eq k)⟩
/-- Block 5's codes start at packed row 160, in the trip's two column halves. -/
theorem off11_eq (k : Fin k1_t1_loop.trips) : k1_off11 k 0#32 = ![160, 256 * k.val] ∧ k1_off11 k 128#32 = ![160, 256 * k.val + 128] :=
  ⟨congrArg (fun x => ![160, x]) (col0_eq k), congrArg (fun x => ![160, x]) (col1_eq k)⟩
/-- Block 5's scales are row 5, in the trip's two column halves. -/
theorem off12_eq (k : Fin k1_t1_loop.trips) : k1_off12 k 0#32 = ![5, 256 * k.val] ∧ k1_off12 k 128#32 = ![5, 256 * k.val + 128] :=
  ⟨congrArg (fun x => ![5, x]) (col0_eq k), congrArg (fun x => ![5, x]) (col1_eq k)⟩
/-- Block 6's codes start at packed row 192, in the trip's two column halves. -/
theorem off13_eq (k : Fin k1_t1_loop.trips) : k1_off13 k 0#32 = ![192, 256 * k.val] ∧ k1_off13 k 128#32 = ![192, 256 * k.val + 128] :=
  ⟨congrArg (fun x => ![192, x]) (col0_eq k), congrArg (fun x => ![192, x]) (col1_eq k)⟩
/-- Block 6's scales are row 6, in the trip's two column halves. -/
theorem off14_eq (k : Fin k1_t1_loop.trips) : k1_off14 k 0#32 = ![6, 256 * k.val] ∧ k1_off14 k 128#32 = ![6, 256 * k.val + 128] :=
  ⟨congrArg (fun x => ![6, x]) (col0_eq k), congrArg (fun x => ![6, x]) (col1_eq k)⟩
/-- Block 7's codes start at packed row 224, in the trip's two column halves. -/
theorem off15_eq (k : Fin k1_t1_loop.trips) : k1_off15 k 0#32 = ![224, 256 * k.val] ∧ k1_off15 k 128#32 = ![224, 256 * k.val + 128] :=
  ⟨congrArg (fun x => ![224, x]) (col0_eq k), congrArg (fun x => ![224, x]) (col1_eq k)⟩
/-- Block 7's scales are row 7, in the trip's two column halves. -/
theorem off16_eq (k : Fin k1_t1_loop.trips) : k1_off16 k 0#32 = ![7, 256 * k.val] ∧ k1_off16 k 128#32 = ![7, 256 * k.val + 128] :=
  ⟨congrArg (fun x => ![7, x]) (col0_eq k), congrArg (fun x => ![7, x]) (col1_eq k)⟩

/-- The weight of row `d` of the block and column `n` of the whole matrix: the table's entry at the row's half of the
    packed code, times the scale of the row's group of 64. -/
def wAt (x1 : Vec Ideal S256x11008 .i8) (x2 : Vec Ideal S8x11008 .bf16) (x5 : Vec Ideal S16x128 .bf16) (d : Fin 512)
    (n : Fin 11008) : EReal :=
  x5 (ix2 (nf4Row (d % 2) (x1 (ix2 ⟨d / 2, by omega⟩ n))) ⟨n % 128, by omega⟩) * x2 (ix2 ⟨d / 64, by omega⟩ n)

/-- A block of codes read from a buffer that holds `x1`. -/
theorem ldC_apply {arg2 : Memref sig .tc .vmem S256x11008 .i8} (harg2 : arg2.IsWhole) (x1 : Vec Ideal S256x11008 .i8)
    (off : Fin 2 → ℕ) (inb) (a b : ℕ) (h : off = ![a, b]) (j : Fin 32) (l : Fin 128) (j' : Fin 256) (n : Fin 11008)
    (hj : j'.val = a + j) (hn : n.val = b + l) :
    ldC (F := Ideal) arg2 (harg2.unread x1) off inb (ix2 j l) = x1 (ix2 j' n) := by
  subst h
  refine (congrFun (harg2.read_unread x1) _).trans ?_
  pointwise
  exact congrArg x1 (congrArg₂ ix2 (Fin.ext hj.symm) (Fin.ext hn.symm))

/-- A row of scales read from a buffer that holds `x2`. -/
theorem ldA_apply {arg3 : Memref sig .tc .vmem S8x11008 .bf16} (harg3 : arg3.IsWhole) (x2 : Vec Ideal S8x11008 .bf16)
    (off : Fin 2 → ℕ) (inb) (a b : ℕ) (h : off = ![a, b]) (l : Fin 128) (j' : Fin 8) (n : Fin 11008)
    (hj : j'.val = a) (hn : n.val = b + l) :
    ldA (F := Ideal) arg3 (harg3.unread x2) off inb (ix2 0 l) = x2 (ix2 j' n) := by
  subst h
  refine (congrFun (harg3.read_unread x2) _).trans ?_
  pointwise
  exact congrArg x2 (congrArg₂ ix2 (Fin.ext hj.symm) (Fin.ext hn.symm))

/-- ONE STORED BLOCK at a row and a lane is the weight there. -/
theorem block_apply {arg2 : Memref sig .tc .vmem S256x11008 .i8} (harg2 : arg2.IsWhole)
    {arg3 : Memref sig .tc .vmem S8x11008 .bf16} (harg3 : arg3.IsWhole)
    {arg6 : Memref sig .tc .vmem S16x128 .bf16} (harg6 : arg6.IsWhole)
    (x1 : Vec Ideal S256x11008 .i8) (x2 : Vec Ideal S8x11008 .bf16) (x5 : Vec Ideal S16x128 .bf16)
    (off2 : Fin 2 → ℕ) (inb2) (off3 : Fin 2 → ℕ) (inb3) (a b c : ℕ) (h2 : off2 = ![a, c]) (h3 : off3 = ![b, c])
    (hab : a = 32 * b) (hc : c % 128 = 0) (z : S64x128.Idx) (d : Fin 512) (n : Fin 11008) (hd : d.val = 64 * b + (z 0).val)
    (hn : n.val = c + (z 1).val) :
    dq (F := Ideal) (ldC arg2 (harg2.unread x1) off2 inb2) (ldA arg3 (harg3.unread x2) off3 inb3) (ldT arg6 (harg6.unread x5)) z
      = wAt x1 x2 x5 d n := by
  obtain ⟨r, l, rfl⟩ : ∃ (r : Fin 64) (l : Fin 128), z = ix2 r l := ⟨z 0, z 1, eq_ix2 z⟩
  have hd' : d.val = 64 * b + r.val := hd
  have hn' : n.val = c + l.val := hn
  have ht : ldT (F := Ideal) arg6 (harg6.unread x5) = x5 := ld_whole harg6 x5 _
  rw [dq_apply, ht, ldC_apply harg2 x1 off2 inb2 a c h2 _ l ⟨d / 2, by omega⟩ n (by show d.val / 2 = a + r.val / 2; omega) hn',
    ldA_apply harg3 x2 off3 inb3 b c h3 l ⟨d / 64, by omega⟩ n (by show d.val / 64 = b; omega) hn']
  unfold wAt
  rw [show r.val % 2 = d.val % 2 by omega, show l = ⟨n % 128, by omega⟩ from Fin.ext (by show l.val = n.val % 128; omega)]

/-- THE TILE at a row and a column. -/
theorem tile_apply {arg2 : Memref sig .tc .vmem S256x11008 .i8} (harg2 : arg2.IsWhole)
    {arg3 : Memref sig .tc .vmem S8x11008 .bf16} (harg3 : arg3.IsWhole)
    {arg6 : Memref sig .tc .vmem S16x128 .bf16} (harg6 : arg6.IsWhole) (arg8 : Memref sig .tc .vmem S512x256 .bf16)
    (x1 : Vec Ideal S256x11008 .i8) (x2 : Vec Ideal S8x11008 .bf16) (x5 : Vec Ideal S16x128 .bf16)
    (k : Fin k1_t1_loop.trips) (d : Fin 512) (j : Fin 256) (n : Fin 11008) (hn : n.val = 256 * k.val + j.val) :
    trip_k1_t1.sl.v2437 (F := Ideal) arg2 arg3 arg6 arg8 (harg2.unread x1) (harg3.unread x2) (harg6.unread x5) k (ix2 d j)
      = wAt x1 x2 x5 d n := by
  unfold trip_k1_t1.sl.v2437
  rw [View.readCov_eq_canon', pieces_eq]
  have e : (Rect.unit (s := S512x256) ![0, 0] S512x256.size inb_S512x256_S512x256_0_0).toLoadRect.idx (ix2 d j) = ix2 d j := by
    funext a; fin_cases a <;> exact Fin.ext (by simp [LoadRect.idx])
  show View.canon _ (_ : S512x256.Idx) = _
  rw [e]
  unfold tilePieces
  canon_tiles x h
  all_goals
    change (d.val = _) at h0
    change (j.val = _) at h1
  case piece0 =>
    exact block_apply harg2 harg3 harg6 x1 x2 x5 _ _ _ _ 224 7 (256 * k.val + 128) (off15_eq k).2 (off16_eq k).2 (by norm_num) (by omega) x d n (by omega) (by omega)
  case piece1 =>
    exact block_apply harg2 harg3 harg6 x1 x2 x5 _ _ _ _ 192 6 (256 * k.val + 128) (off13_eq k).2 (off14_eq k).2 (by norm_num) (by omega) x d n (by omega) (by omega)
  case piece2 =>
    exact block_apply harg2 harg3 harg6 x1 x2 x5 _ _ _ _ 160 5 (256 * k.val + 128) (off11_eq k).2 (off12_eq k).2 (by norm_num) (by omega) x d n (by omega) (by omega)
  case piece3 =>
    exact block_apply harg2 harg3 harg6 x1 x2 x5 _ _ _ _ 128 4 (256 * k.val + 128) (off9_eq k).2 (off10_eq k).2 (by norm_num) (by omega) x d n (by omega) (by omega)
  case piece4 =>
    exact block_apply harg2 harg3 harg6 x1 x2 x5 _ _ _ _ 96 3 (256 * k.val + 128) (off7_eq k).2 (off8_eq k).2 (by norm_num) (by omega) x d n (by omega) (by omega)
  case piece5 =>
    exact block_apply harg2 harg3 harg6 x1 x2 x5 _ _ _ _ 64 2 (256 * k.val + 128) (off5_eq k).2 (off6_eq k).2 (by norm_num) (by omega) x d n (by omega) (by omega)
  case piece6 =>
    exact block_apply harg2 harg3 harg6 x1 x2 x5 _ _ _ _ 32 1 (256 * k.val + 128) (off3_eq k).2 (off4_eq k).2 (by norm_num) (by omega) x d n (by omega) (by omega)
  case piece7 =>
    exact block_apply harg2 harg3 harg6 x1 x2 x5 _ _ _ _ 0 0 (256 * k.val + 128) (off1_eq k).2 (off2_eq k).2 (by norm_num) (by omega) x d n (by omega) (by omega)
  case piece8 =>
    exact block_apply harg2 harg3 harg6 x1 x2 x5 _ _ _ _ 224 7 (256 * k.val) (off15_eq k).1 (off16_eq k).1 (by norm_num) (by omega) x d n (by omega) (by omega)
  case piece9 =>
    exact block_apply harg2 harg3 harg6 x1 x2 x5 _ _ _ _ 192 6 (256 * k.val) (off13_eq k).1 (off14_eq k).1 (by norm_num) (by omega) x d n (by omega) (by omega)
  case piece10 =>
    exact block_apply harg2 harg3 harg6 x1 x2 x5 _ _ _ _ 160 5 (256 * k.val) (off11_eq k).1 (off12_eq k).1 (by norm_num) (by omega) x d n (by omega) (by omega)
  case piece11 =>
    exact block_apply harg2 harg3 harg6 x1 x2 x5 _ _ _ _ 128 4 (256 * k.val) (off9_eq k).1 (off10_eq k).1 (by norm_num) (by omega) x d n (by omega) (by omega)
  case piece12 =>
    exact block_apply harg2 harg3 harg6 x1 x2 x5 _ _ _ _ 96 3 (256 * k.val) (off7_eq k).1 (off8_eq k).1 (by norm_num) (by omega) x d n (by omega) (by omega)
  case piece13 =>
    exact block_apply harg2 harg3 harg6 x1 x2 x5 _ _ _ _ 64 2 (256 * k.val) (off5_eq k).1 (off6_eq k).1 (by norm_num) (by omega) x d n (by omega) (by omega)
  case piece14 =>
    exact block_apply harg2 harg3 harg6 x1 x2 x5 _ _ _ _ 32 1 (256 * k.val) (off3_eq k).1 (off4_eq k).1 (by norm_num) (by omega) x d n (by omega) (by omega)
  case piece15 =>
    exact block_apply harg2 harg3 harg6 x1 x2 x5 _ _ _ _ 0 0 (256 * k.val) (off1_eq k).1 (off2_eq k).1 (by norm_num) (by omega) x d n (by omega) (by omega)

end Cert.KernelIdeal.Hand
-- ==== Proof.ChunkSum.lean ====
module

public import Idealize.ShloMosaic.Lib.Pointwise

/-! # A sum over 11008 columns, chunk by chunk

Both calls add up their products over the 11008 output columns in 43 chunks of 256. `part f k` is the sum over the first
`k` chunks: it grows by one chunk's sum at a time and ends at the whole sum. Addition of extended reals is commutative and
associative at every value, so nothing is asked of the terms. -/

@[expose] public section

noncomputable section

namespace Cert.ChunkSum

/-- The sum of `f` over the first `k` chunks of 256 columns. -/
def part (f : Fin 11008 → EReal) (k : ℕ) : EReal :=
  ∑ i ∈ Finset.range (256 * k), if h : i < 11008 then f ⟨i, h⟩ else 0

/-- Over no columns the sum is zero. -/
theorem part_zero (f : Fin 11008 → EReal) : part f 0 = 0 := by simp [part]

/-- One more chunk. -/
theorem part_succ (f : Fin 11008 → EReal) (k : ℕ) (hk : k < 43) :
    part f (k + 1) = part f k + ∑ j : Fin 256, f ⟨256 * k + j, by omega⟩ := by
  unfold part
  rw [show 256 * (k + 1) = 256 * k + 256 by ring, Finset.sum_range_add, Finset.sum_range (n := 256)]
  refine congrArg _ (Finset.sum_congr rfl fun j _ => ?_)
  rw [dif_pos (by omega)]

/-- All 43 chunks. -/
theorem part_all (f : Fin 11008 → EReal) : part f 43 = ∑ n, f n := by
  unfold part
  rw [show 256 * 43 = 11008 by norm_num, Finset.sum_range]
  exact Finset.sum_congr rfl fun j _ => dif_pos j.isLt

end Cert.ChunkSum
-- ==== Proof.KernelIdealMainAcc.lean ====
module

public import proofs.«01_k».proof.Proof.KernelIdealTile
public import proofs.«01_k».proof.Proof.ChunkSum

/-! # The second call's accumulator, element by element -/

@[expose] public section

set_option maxRecDepth 16384

noncomputable section

namespace Cert.KernelIdeal.Hand

open Cert.KernelIdeal.Gen Cert.ChunkSum
open Idealize.ShloMosaic

/-- The constant the adapter's terms are scaled by, `0x3E800000`. -/
def quarter : EReal := FloatOps.ofBits (F := Ideal) .f32 0x3E800000#32

/-- The accumulator's first contents: the scaled adapter term. -/
theorem pay1_apply (x4 : Vec Ideal S1024x64 .bf16) (x3 : Vec Ideal S512x64 .bf16) (t : Fin 1024) (d : Fin 512) :
    k1_pay1 (F := Ideal) x4 x3 (ix2 t d) = quarter * ∑ r : Fin 64, x4 (ix2 t r) * x3 (ix2 d r) := by
  pointwise [k1_pay1]
  rfl

/-- One trip adds the chunk's products. -/
theorem pay3_apply (acc : Vec Ideal S1024x512 .f32) (dy : Vec Ideal S1024x256 .bf16) (w : Vec Ideal S512x256 .bf16)
    (t : Fin 1024) (d : Fin 512) :
    k1_pay3 (F := Ideal) acc dy w (ix2 t d) = acc (ix2 t d) + ∑ j : Fin 256, dy (ix2 t j) * w (ix2 d j) := by
  pointwise [k1_pay3]

/-- A chunk of `dy` read from a buffer that holds `x0`. -/
theorem ldDy_apply {arg1 : Memref sig .tc .vmem S1024x11008 .bf16} (harg1 : arg1.IsWhole) (x0 : Vec Ideal S1024x11008 .bf16)
    (k : Fin k1_t1_loop.trips) (t : Fin 1024) (j : Fin 256) (n : Fin 11008) (hn : n.val = 256 * k.val + j.val) :
    View.readAt (Elt Ideal) arg1.view (Rect.unit (s := S1024x11008) (k1_off17 k) S1024x256.size (k1_off17_inb k)).toLoadRect
      (harg1.unread x0) (ix2 t j) = x0 (ix2 t n) := by
  have h := off17_eq k
  generalize hinb : k1_off17_inb k = inb
  clear hinb
  revert inb
  rw [h]
  intro inb
  refine (congrFun (harg1.read_unread x0) _).trans ?_
  pointwise
  exact congrArg x0 (congrArg (ix2 t) (Fin.ext hn.symm))

/-- THE ACCUMULATOR after `k` trips, at a token and a row of the block. -/
theorem accM_apply (arg1 : Memref sig .tc .vmem S1024x11008 .bf16) (harg1 : arg1.IsWhole)
    (arg2 : Memref sig .tc .vmem S256x11008 .i8) (harg2 : arg2.IsWhole)
    (arg3 : Memref sig .tc .vmem S8x11008 .bf16) (harg3 : arg3.IsWhole)
    (arg4 : Memref sig .tc .vmem S512x64 .bf16) (harg4 : arg4.IsWhole)
    (arg5 : Memref sig .tc .vmem S1024x64 .bf16) (harg5 : arg5.IsWhole)
    (arg6 : Memref sig .tc .vmem S16x128 .bf16) (harg6 : arg6.IsWhole)
    (arg7 : Memref sig .tc .vmem S1024x512 .bf16) (harg7 : arg7.IsWhole)
    (arg8 : Memref sig .tc .vmem S512x256 .bf16) (harg8 : arg8.IsWhole)
    (arg9 : Memref sig .tc .vmem S1024x512 .f32) (harg9 : arg9.IsWhole)
    (x0 : Vec Ideal S1024x11008 .bf16) (x1 : Vec Ideal S256x11008 .i8) (x2 : Vec Ideal S8x11008 .bf16)
    (x3 : Vec Ideal S512x64 .bf16) (x4 : Vec Ideal S1024x64 .bf16) (x5 : Vec Ideal S16x128 .bf16) (t : Fin 1024) (d : Fin 512) :
    ∀ k, k ≤ 43 →
    accM (F := Ideal) arg1 harg1 arg2 harg2 arg3 harg3 arg4 harg4 arg5 harg5 arg6 harg6 arg7 harg7 arg8 harg8 arg9 harg9 x0 x1 x2 x3 x4 x5 k (ix2 t d)
      = quarter * (∑ r : Fin 64, x4 (ix2 t r) * x3 (ix2 d r)) + part (fun n => x0 (ix2 t n) * wAt x1 x2 x5 d n) k
  | 0, _ => by
    rw [accM, pay1_apply, part_zero, add_zero]
  | k + 1, hk => by
    have h : k < k1_t1_loop.trips := by rw [trips_eq]; omega
    rw [accM, dif_pos h, pay3_apply, accM_apply _ _ _ _ _ _ _ _ _ _ _ _ _ _ _ _ _ _ _ _ _ _ _ _ t d k (by omega),
      part_succ _ k (by omega), add_assoc]
    refine congrArg _ (congrArg _ (Finset.sum_congr rfl fun j _ => ?_))
    rw [ldDy_apply harg1 x0 ⟨k, h⟩ t j ⟨256 * k + j, by omega⟩ rfl,
      tile_apply harg2 harg3 harg6 arg8 x1 x2 x5 ⟨k, h⟩ d j ⟨256 * k + j, by omega⟩ rfl]

end Cert.KernelIdeal.Hand
-- ==== Proof.KernelIdealLoraValue.lean ====
module

public import proofs.«01_k».proof.Proof.KernelIdealMainAcc
public import proofs.«01_k».proof.Proof.KernelIdealLora
public import Idealize.ShloMosaic.Lib.Pipeline.Value

/-! # What the first call leaves in its four result arrays -/

@[expose] public section

set_option maxRecDepth 16384

noncomputable section

namespace Cert.KernelIdeal.Hand

open Cert.KernelIdeal.Gen Cert.ChunkSum
open Idealize.ShloMosaic Idealize.ShloMosaic.TcCoe
open Idealize.SL Idealize.SL.Sem
open Idealize.ShloMosaic.Pipeline (Dat Cfg Window)

/-! ## The payloads at an index -/

/-- The first step's product of the activations and the first adapter matrix, at one entry. -/
theorem k0_pay1_apply (x : Vec Ideal S1024x4096 .bf16) (a : Vec Ideal S4096x64 .bf16) (t : Fin 1024) (r : Fin 64) :
    k0_pay1 (F := Ideal) x a (ix2 t r) = ∑ d : Fin 4096, x (ix2 t d) * a (ix2 d r) := by
  pointwise [k0_pay1]

/-- The running sum starts at zero. -/
theorem k0_pay2_apply (t : Fin 1024) (r : Fin 64) : k0_pay2 (F := Ideal) (ix2 t r) = 0 := by
  pointwise [k0_pay2]

/-- One step adds the sum over its 256 output columns. -/
theorem k0_pay4_apply (dy : Vec Ideal S1024x256 .bf16) (acc : Vec Ideal S1024x64 .f32) (b : Vec Ideal S64x256 .bf16) (t : Fin 1024)
    (r : Fin 64) :
    k0_pay4 (F := Ideal) dy acc b (ix2 t r) = acc (ix2 t r) + ∑ j : Fin 256, dy (ix2 t j) * b (ix2 r j) := by
  pointwise [k0_pay4, k0_pay3]

/-- One step's block of the second adapter matrix's gradient, at one entry. -/
theorem k0_pay5_apply (dy : Vec Ideal S1024x256 .bf16) (xa : Vec Ideal S1024x64 .bf16) (r : Fin 64) (j : Fin 256) :
    k0_pay5 (F := Ideal) dy xa (ix2 r j) = quarter * ∑ t : Fin 1024, xa (ix2 t r) * dy (ix2 t j) := by
  pointwise [k0_pay5, k0_pay3]
  rfl

/-- The running sum is returned as it is. -/
theorem k0_pay6_apply (acc : Vec Ideal S1024x64 .f32) (t : Fin 1024) (r : Fin 64) :
    k0_pay6 (F := Ideal) acc (ix2 t r) = acc (ix2 t r) := by
  pointwise [k0_pay6]

/-- The last step's gradient of the first adapter matrix, at one entry. -/
theorem k0_pay7_apply (x : Vec Ideal S1024x4096 .bf16) (g : Vec Ideal S1024x64 .bf16) (d : Fin 4096) (r : Fin 64) :
    k0_pay7 (F := Ideal) x g (ix2 d r) = quarter * ∑ t : Fin 1024, x (ix2 t d) * g (ix2 t r) := by
  pointwise [k0_pay7]
  rfl

section Region
variable (V : (c : Dev nD) → (b : Ref sig .tc) → Buf (Elt Ideal) ((c : Thread nD τ).loc b))

/-! ## The windows' blocks at an index of the array -/

/-- Which block each window of the first call holds at grid step `t`. -/
theorem index0 : ∀ t : Fin grid0.N, (win0_0.index t 0 = 0 ∧ win0_0.index t 1 = 0) ∧ (win0_1.index t 0 = 0 ∧ win0_1.index t 1 = t.val)
    ∧ (win0_2.index t 0 = 0 ∧ win0_2.index t 1 = 0) ∧ (win0_3.index t 0 = 0 ∧ win0_3.index t 1 = t.val)
    ∧ (win0_4.index t 0 = 0 ∧ win0_4.index t 1 = 0) ∧ (win0_5.index t 0 = 0 ∧ win0_5.index t 1 = t.val)
    ∧ (win0_6.index t 0 = 0 ∧ win0_6.index t 1 = 0) ∧ (win0_7.index t 0 = 0 ∧ win0_7.index t 1 = 0) := by decide +kernel

/-- The activations' block is the whole array. -/
theorem iblk0_0_apply (c : Dev nD) (t : Fin cfg0.N) (a : Fin 1024) (d : Fin 4096) :
    iblk0 V c 0 t (ix2 a d) = V c main_v0 (ix2 a d) := by
  show V c main_v0 ((win0_0.rect t).emb (ix2 a d)) = _
  obtain ⟨⟨h0, h1⟩, -⟩ := index0 t
  refine congrArg (V c main_v0) (funext fun i => Fin.ext ?_)
  match i with
  | ⟨0, _⟩ => exact win0_0.rect_emb_val_of_index_zero t 0 h0 (ix2 a d)
  | ⟨1, _⟩ => exact win0_0.rect_emb_val_of_index_zero t 1 h1 (ix2 a d)

/-- The output gradient's block at step `t` holds the 256 columns from `256 * t`. -/
theorem iblk0_1_apply (c : Dev nD) (t : Fin cfg0.N) (a : Fin 1024) (j : Fin 256) (n : Fin 11008) (hn : n.val = 256 * t.val + j.val) :
    iblk0 V c 1 t (ix2 a j) = V c main_v1 (ix2 a n) := by
  show V c main_v1 ((win0_1.rect t).emb (ix2 a j)) = _
  obtain ⟨-, ⟨h0, h1⟩, -⟩ := index0 t
  refine congrArg (V c main_v1) (funext fun i => Fin.ext ?_)
  match i with
  | ⟨0, _⟩ => exact win0_1.rect_emb_val_of_index_zero t 0 h0 (ix2 a j)
  | ⟨1, _⟩ => exact (win0_1.rect_emb_val t (ix2 a j) 1).trans (by rw [h1]; show t.val * 256 + j.val = n.val; omega)

/-- The first adapter matrix's block is the whole matrix. -/
theorem iblk0_2_apply (c : Dev nD) (t : Fin cfg0.N) (d : Fin 4096) (r : Fin 64) :
    iblk0 V c 2 t (ix2 d r) = V c main_arg4 (ix2 d r) := by
  show V c main_arg4 ((win0_2.rect t).emb (ix2 d r)) = _
  obtain ⟨-, -, ⟨h0, h1⟩, -⟩ := index0 t
  refine congrArg (V c main_arg4) (funext fun i => Fin.ext ?_)
  match i with
  | ⟨0, _⟩ => exact win0_2.rect_emb_val_of_index_zero t 0 h0 (ix2 d r)
  | ⟨1, _⟩ => exact win0_2.rect_emb_val_of_index_zero t 1 h1 (ix2 d r)

/-- The second adapter matrix's block at step `t` holds the 256 columns from `256 * t`. -/
theorem iblk0_3_apply (c : Dev nD) (t : Fin cfg0.N) (r : Fin 64) (j : Fin 256) (n : Fin 11008) (hn : n.val = 256 * t.val + j.val) :
    iblk0 V c 3 t (ix2 r j) = V c main_arg5 (ix2 r n) := by
  show V c main_arg5 ((win0_3.rect t).emb (ix2 r j)) = _
  obtain ⟨-, -, -, ⟨h0, h1⟩, -⟩ := index0 t
  refine congrArg (V c main_arg5) (funext fun i => Fin.ext ?_)
  match i with
  | ⟨0, _⟩ => exact win0_3.rect_emb_val_of_index_zero t 0 h0 (ix2 r j)
  | ⟨1, _⟩ => exact (win0_3.rect_emb_val t (ix2 r j) 1).trans (by rw [h1]; show t.val * 256 + j.val = n.val; omega)

/-! ## The values -/

/-- The first call has 43 grid steps. -/
theorem N0 : cfg0.N = 43 := N_0

/-- `x · A` at a token and a rank. -/
def xaFull (x : Vec Ideal S1024x4096 .bf16) (la : Vec Ideal S4096x64 .bf16) (t : Fin 1024) (r : Fin 64) : EReal :=
  ∑ d : Fin 4096, x (ix2 t d) * la (ix2 d r)

/-- A product of `dy · Bᵀ`'s sum. -/
def gTerm (dy : Vec Ideal S1024x11008 .bf16) (lb : Vec Ideal S64x11008 .bf16) (t : Fin 1024) (r : Fin 64) (n : Fin 11008) : EReal :=
  dy (ix2 t n) * lb (ix2 r n)

/-- `dy · Bᵀ` at a token and a rank. -/
def gFull (dy : Vec Ideal S1024x11008 .bf16) (lb : Vec Ideal S64x11008 .bf16) (t : Fin 1024) (r : Fin 64) : EReal :=
  ∑ n : Fin 11008, gTerm dy lb t r n

/-- The gradient of `A`: a quarter of `xᵀ · g`. -/
def daFull (x : Vec Ideal S1024x4096 .bf16) (dy : Vec Ideal S1024x11008 .bf16) (lb : Vec Ideal S64x11008 .bf16) (d : Fin 4096)
    (r : Fin 64) : EReal :=
  quarter * ∑ t : Fin 1024, x (ix2 t d) * gFull dy lb t r

/-- The gradient of `B`: a quarter of `(x · A)ᵀ · dy`. -/
def dbFull (x : Vec Ideal S1024x4096 .bf16) (dy : Vec Ideal S1024x11008 .bf16) (la : Vec Ideal S4096x64 .bf16) (r : Fin 64)
    (n : Fin 11008) : EReal :=
  quarter * ∑ t : Fin 1024, xaFull x la t r * dy (ix2 t n)

/-- The kept product of the activations and the first adapter matrix, over the call's arrays. -/
theorem xaV_apply (c : Dev nD) (t : Fin 1024) (r : Fin 64) :
    xaV V c (ix2 t r) = xaFull (V c main_v0) (V c main_arg4) t r := by
  unfold xaV xaFull
  rw [k0_pay1_apply]
  exact Finset.sum_congr rfl fun d _ => by rw [iblk0_0_apply, iblk0_2_apply]

/-- The accumulator after `k` points holds the first `k` chunks of `dy · Bᵀ`. -/
theorem gsum_apply (c : Dev nD) (t : Fin 1024) (r : Fin 64) : ∀ k, k ≤ 43 →
    gsum V c k (ix2 t r) = part (gTerm (V c main_v1) (V c main_arg5) t r) k
  | 0, _ => by rw [part_zero]; exact k0_pay2_apply t r
  | k + 1, hk => by
    have h : k < cfg0.N := by rw [N0]; omega
    have e := gsum_succ V c ⟨k, h⟩
    rw [show gsum V c (k + 1) = _ from e, k0_pay4_apply, gsum_apply c t r k (by omega), part_succ _ k (by omega)]
    refine congrArg _ (Finset.sum_congr rfl fun j _ => ?_)
    rw [iblk0_1_apply V c ⟨k, h⟩ t j ⟨256 * k + j, by omega⟩ rfl, iblk0_3_apply V c ⟨k, h⟩ r j ⟨256 * k + j, by omega⟩ rfl]
    rfl

/-- The running sum after the last step is the sum over all output columns. -/
theorem gV_apply (c : Dev nD) (t : Fin 1024) (r : Fin 64) : gV V c (ix2 t r) = gFull (V c main_v1) (V c main_arg5) t r := by
  unfold gV gFull
  rw [k0_pay6_apply, gsum_apply V c t r 43 (le_refl _), part_all]

/-! ## The arrays -/

/-- The gradient of `A` as an array. -/
def daG (c : Dev nD) : Buf (Elt Ideal) ((c : Thread nD τ).loc main_v9_0) := fun i : S4096x64.Idx =>
  daFull (V c main_v0) (V c main_v1) (V c main_arg5) (i 0) (i 1)

/-- The gradient of `B` as an array. -/
def dbG (c : Dev nD) : Buf (Elt Ideal) ((c : Thread nD τ).loc main_v9_1) := fun i : S64x11008.Idx =>
  dbFull (V c main_v0) (V c main_v1) (V c main_arg4) (i 0) (i 1)

/-- `dy · Bᵀ` as an array. -/
def gG (c : Dev nD) : Buf (Elt Ideal) ((c : Thread nD τ).loc main_v9_2) := fun i : S1024x64.Idx =>
  gFull (V c main_v1) (V c main_arg5) (i 0) (i 1)

/-- `x · A` as an array. -/
def xaG (c : Dev nD) : Buf (Elt Ideal) ((c : Thread nD τ).loc main_v9_3) := fun i : S1024x64.Idx =>
  xaFull (V c main_v0) (V c main_arg4) (i 0) (i 1)

/-- Step 42 is a grid step, the last. -/
theorem last0 : 42 < cfg0.N := by rw [N0]; decide

/-- What step `t` writes back is its block of the gradient of the second adapter matrix. -/
theorem flushed0_5 (c : Dev nD) (t : Fin cfg0.N) :
    (dat0 V c).flushed 5 t = ((cfg0.win 5).blk t).view.read (Elt Ideal) (dbG V c) := by
  show (cfg0.win 5).cut (grid0.coords t) ((dat0 V c).after 5 t) = _
  rw [after0_5]
  funext y
  obtain ⟨r, j, rfl⟩ : ∃ (r : Fin 64) (j : Fin 256), y = (ix2 r j : S64x256.Idx) := ⟨y 0, y 1, eq_ix2 (y : S64x256.Idx)⟩
  show k0_pay5 (iblk0 V c 1 t) (xaV V c) (ix2 r j) = dbG V c ((win0_5.rect t).emb (ix2 r j))
  obtain ⟨-, -, -, -, -, ⟨h0, h1⟩, -⟩ := index0 t
  have e0 : (((win0_5.rect t).emb (ix2 r j) : S64x11008.Idx) 0) = r := Fin.ext (win0_5.rect_emb_val_of_index_zero t 0 h0 (ix2 r j))
  have e1 : (((win0_5.rect t).emb (ix2 r j) : S64x11008.Idx) 1).val = 256 * t.val + j.val :=
    (win0_5.rect_emb_val t (ix2 r j) 1).trans (by rw [h1]; show t.val * 256 + j.val = _; omega)
  rw [k0_pay5_apply]
  unfold dbG dbFull
  rw [e0]
  refine congrArg _ (Finset.sum_congr rfl fun a _ => ?_)
  rw [xaV_apply, iblk0_1_apply V c t a j _ e1]

/-- Every entry of that gradient lies in a block that some step writes back. -/
theorem cover0_5 (i : S64x11008.Idx) : ∃ t : Fin cfg0.N, (cfg0.win 5).flush t = true ∧ i ∈ ((cfg0.win 5).blk t).view.set := by
  have hi0 : (i 0).val < 64 := (i 0).isLt
  have hi1 : (i 1).val < 11008 := (i 1).isLt
  have ht : (i 1).val / 256 < cfg0.N := by rw [N0]; omega
  refine ⟨⟨(i 1).val / 256, ht⟩, flush0_5 _, ?_⟩
  show i ∈ ((View.whole main_v9_1).slice (win0_5.rect ⟨(i 1).val / 256, ht⟩)).set
  rw [View.set_slice_whole, Rect.mem_set_unit]
  obtain ⟨-, -, -, -, -, ⟨h0, h1⟩, -⟩ := index0 ⟨(i 1).val / 256, ht⟩
  intro a
  show win0_5.index ⟨(i 1).val / 256, ht⟩ a * win0_5.size a ≤ (i a : Nat) ∧ (i a : Nat) < win0_5.index ⟨(i 1).val / 256, ht⟩ a * win0_5.size a + win0_5.xsize (grid0.coords ⟨(i 1).val / 256, ht⟩) a
  match a with
  | ⟨0, _⟩ =>
    rw [show win0_5.index ⟨(i 1).val / 256, ht⟩ ⟨0, by decide⟩ = 0 from h0]
    show 0 * 64 ≤ (i 0).val ∧ (i 0).val < 0 * 64 + 64
    omega
  | ⟨1, _⟩ =>
    rw [show win0_5.index ⟨(i 1).val / 256, ht⟩ ⟨1, by decide⟩ = (i 1).val / 256 from h1]
    show (i 1).val / 256 * 256 ≤ (i 1).val ∧ (i 1).val < (i 1).val / 256 * 256 + 256
    omega

/-- `B`'S GRADIENT: what the call leaves in its second result. -/
theorem final0_5 (c : Dev nD) : (dat0 V c).arrAt 5 cfg0.N = dbG V c :=
  (dat0 V c).arrAt_eq_of_cover 5 (dbG V c) (fun t _ => flushed0_5 V c t) cover0_5

/-- What is written back to the first output is the gradient of the first adapter matrix. -/
theorem flushed0_4 (c : Dev nD) (t : Fin cfg0.N) :
    (dat0 V c).flushed 4 t = ((cfg0.win 4).blk t).view.read (Elt Ideal) (daG V c) := by
  show (cfg0.win 4).cut (grid0.coords t) ((dat0 V c).after 4 t) = _
  rw [after0_4]
  funext y
  obtain ⟨p, q, rfl⟩ : ∃ (p : Fin 4096) (q : Fin 64), y = (ix2 p q : S4096x64.Idx) := ⟨y 0, y 1, eq_ix2 (y : S4096x64.Idx)⟩
  show k0_pay7 (iblk0 V c 0 t) (gV V c) (ix2 p q) = daG V c ((win0_4.rect t).emb (ix2 p q))
  obtain ⟨-, -, -, -, ⟨h0, h1⟩, -⟩ := index0 t
  have e0 : (((win0_4.rect t).emb (ix2 p q) : S4096x64.Idx) 0) = p := Fin.ext (win0_4.rect_emb_val_of_index_zero t 0 h0 (ix2 p q))
  have e1 : (((win0_4.rect t).emb (ix2 p q) : S4096x64.Idx) 1) = q := Fin.ext (win0_4.rect_emb_val_of_index_zero t 1 h1 (ix2 p q))
  rw [k0_pay7_apply]
  unfold daG daFull
  rw [e0, e1]
  refine congrArg _ (Finset.sum_congr rfl fun a _ => ?_)
  rw [gV_apply, iblk0_0_apply]

/-- The block written back is the whole of the first output. -/
theorem cover0_4 (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  refine ⟨⟨42, last0⟩, (flush0_4 _).mpr rfl, ?_⟩
  show i ∈ ((View.whole main_v9_0).slice (win0_4.rect ⟨42, last0⟩)).set
  rw [View.set_slice_whole, Rect.mem_set_unit]
  obtain ⟨-, -, -, -, ⟨h0, h1⟩, -⟩ := index0 ⟨42, last0⟩
  intro a
  show win0_4.index ⟨42, last0⟩ a * win0_4.size a ≤ (i a : Nat) ∧ (i a : Nat) < win0_4.index ⟨42, last0⟩ a * win0_4.size a + win0_4.xsize (grid0.coords ⟨42, last0⟩) a
  match a with
  | ⟨0, _⟩ =>
    rw [show win0_4.index ⟨42, last0⟩ ⟨0, by decide⟩ = 0 from h0]
    show 0 * 4096 ≤ (i 0).val ∧ (i 0).val < 0 * 4096 + 4096
    omega
  | ⟨1, _⟩ =>
    rw [show win0_4.index ⟨42, last0⟩ ⟨1, by decide⟩ = 0 from h1]
    show 0 * 64 ≤ (i 1).val ∧ (i 1).val < 0 * 64 + 64
    omega

/-- `A`'S GRADIENT: what the call leaves in its first result. -/
theorem final0_4 (c : Dev nD) : (dat0 V c).arrAt 4 cfg0.N = daG V c :=
  (dat0 V c).arrAt_eq_of_cover 4 (daG V c) (fun t _ => flushed0_4 V c t) cover0_4

/-- What is written back to the third output is the output gradient times the second adapter matrix. -/
theorem flushed0_6 (c : Dev nD) (t : Fin cfg0.N) :
    (dat0 V c).flushed 6 t = ((cfg0.win 6).blk t).view.read (Elt Ideal) (gG V c) := by
  show (cfg0.win 6).cut (grid0.coords t) ((dat0 V c).after 6 t) = _
  rw [after0_6]
  funext y
  obtain ⟨p, q, rfl⟩ : ∃ (p : Fin 1024) (q : Fin 64), y = (ix2 p q : S1024x64.Idx) := ⟨y 0, y 1, eq_ix2 (y : S1024x64.Idx)⟩
  show gV V c (ix2 p q) = gG V c ((win0_6.rect t).emb (ix2 p q))
  obtain ⟨-, -, -, -, -, -, ⟨h0, h1⟩, -⟩ := index0 t
  have e0 : (((win0_6.rect t).emb (ix2 p q) : S1024x64.Idx) 0) = p := Fin.ext (win0_6.rect_emb_val_of_index_zero t 0 h0 (ix2 p q))
  have e1 : (((win0_6.rect t).emb (ix2 p q) : S1024x64.Idx) 1) = q := Fin.ext (win0_6.rect_emb_val_of_index_zero t 1 h1 (ix2 p q))
  unfold gG
  rw [e0, e1, gV_apply]

/-- The block written back is the whole of the third output. -/
theorem cover0_6 (i : S1024x64.Idx) : ∃ t : Fin cfg0.N, (cfg0.win 6).flush t = true ∧ i ∈ ((cfg0.win 6).blk t).view.set := by
  have hi0 : (i 0).val < 1024 := (i 0).isLt
  have hi1 : (i 1).val < 64 := (i 1).isLt
  refine ⟨⟨42, last0⟩, (flush0_6 _).mpr rfl, ?_⟩
  show i ∈ ((View.whole main_v9_2).slice (win0_6.rect ⟨42, last0⟩)).set
  rw [View.set_slice_whole, Rect.mem_set_unit]
  obtain ⟨-, -, -, -, -, -, ⟨h0, h1⟩, -⟩ := index0 ⟨42, last0⟩
  intro a
  show win0_6.index ⟨42, last0⟩ a * win0_6.size a ≤ (i a : Nat) ∧ (i a : Nat) < win0_6.index ⟨42, last0⟩ a * win0_6.size a + win0_6.xsize (grid0.coords ⟨42, last0⟩) a
  match a with
  | ⟨0, _⟩ =>
    rw [show win0_6.index ⟨42, last0⟩ ⟨0, by decide⟩ = 0 from h0]
    show 0 * 1024 ≤ (i 0).val ∧ (i 0).val < 0 * 1024 + 1024
    omega
  | ⟨1, _⟩ =>
    rw [show win0_6.index ⟨42, last0⟩ ⟨1, by decide⟩ = 0 from h1]
    show 0 * 64 ≤ (i 1).val ∧ (i 1).val < 0 * 64 + 64
    omega

/-- `dy · Bᵀ`: what the call leaves in its third result. -/
theorem final0_6 (c : Dev nD) : (dat0 V c).arrAt 6 cfg0.N = gG V c :=
  (dat0 V c).arrAt_eq_of_cover 6 (gG V c) (fun t _ => flushed0_6 V c t) cover0_6

/-- What is written back to the fourth output is the activations times the first adapter matrix. -/
theorem flushed0_7 (c : Dev nD) (t : Fin cfg0.N) :
    (dat0 V c).flushed 7 t = ((cfg0.win 7).blk t).view.read (Elt Ideal) (xaG V c) := by
  show (cfg0.win 7).cut (grid0.coords t) ((dat0 V c).after 7 t) = _
  rw [after0_7]
  funext y
  obtain ⟨p, q, rfl⟩ : ∃ (p : Fin 1024) (q : Fin 64), y = (ix2 p q : S1024x64.Idx) := ⟨y 0, y 1, eq_ix2 (y : S1024x64.Idx)⟩
  show xaV V c (ix2 p q) = xaG V c ((win0_7.rect t).emb (ix2 p q))
  obtain ⟨-, -, -, -, -, -, -, ⟨h0, h1⟩⟩ := index0 t
  have e0 : (((win0_7.rect t).emb (ix2 p q) : S1024x64.Idx) 0) = p := Fin.ext (win0_7.rect_emb_val_of_index_zero t 0 h0 (ix2 p q))
  have e1 : (((win0_7.rect t).emb (ix2 p q) : S1024x64.Idx) 1) = q := Fin.ext (win0_7.rect_emb_val_of_index_zero t 1 h1 (ix2 p q))
  unfold xaG
  rw [e0, e1, xaV_apply]

/-- The block written back is the whole of the fourth output. -/
theorem cover0_7 (i : S1024x64.Idx) : ∃ t : Fin cfg0.N, (cfg0.win 7).flush t = true ∧ i ∈ ((cfg0.win 7).blk t).view.set := by
  have hi0 : (i 0).val < 1024 := (i 0).isLt
  have hi1 : (i 1).val < 64 := (i 1).isLt
  refine ⟨⟨42, last0⟩, (flush0_7 _).mpr rfl, ?_⟩
  show i ∈ ((View.whole main_v9_3).slice (win0_7.rect ⟨42, last0⟩)).set
  rw [View.set_slice_whole, Rect.mem_set_unit]
  obtain ⟨-, -, -, -, -, -, -, ⟨h0, h1⟩⟩ := index0 ⟨42, last0⟩
  intro a
  show win0_7.index ⟨42, last0⟩ a * win0_7.size a ≤ (i a : Nat) ∧ (i a : Nat) < win0_7.index ⟨42, last0⟩ a * win0_7.size a + win0_7.xsize (grid0.coords ⟨42, last0⟩) a
  match a with
  | ⟨0, _⟩ =>
    rw [show win0_7.index ⟨42, last0⟩ ⟨0, by decide⟩ = 0 from h0]
    show 0 * 1024 ≤ (i 0).val ∧ (i 0).val < 0 * 1024 + 1024
    omega
  | ⟨1, _⟩ =>
    rw [show win0_7.index ⟨42, last0⟩ ⟨1, by decide⟩ = 0 from h1]
    show 0 * 64 ≤ (i 1).val ∧ (i 1).val < 0 * 64 + 64
    omega

/-- `x · A`: what the call leaves in its fourth result. -/
theorem final0_7 (c : Dev nD) : (dat0 V c).arrAt 7 cfg0.N = xaG V c :=
  (dat0 V c).arrAt_eq_of_cover 7 (xaG V c) (fun t _ => flushed0_7 V c t) cover0_7

end Region

end Cert.KernelIdeal.Hand
-- ==== Proof.KernelIdealMainValue.lean ====
module

public import proofs.«01_k».proof.Proof.KernelIdealMainAcc
public import proofs.«01_k».proof.Proof.KernelIdealMain
public import Idealize.ShloMosaic.Lib.Pipeline.Value

/-! # What the second call leaves in `dx`'s array -/

@[expose] public section

set_option maxRecDepth 16384

noncomputable section

namespace Cert.KernelIdeal.Hand

open Cert.KernelIdeal.Gen Cert.ChunkSum
open Idealize.ShloMosaic Idealize.ShloMosaic.TcCoe
open Idealize.SL Idealize.SL.Sem
open Idealize.ShloMosaic.Pipeline (Dat Cfg Window)

section Region
variable (V : (c : Dev nD) → (b : Ref sig .tc) → Buf (Elt Ideal) ((c : Thread nD τ).loc b))

/-! ## The windows' blocks at an index of the array -/

/-- Which block each window of the second call holds at grid step `t`. -/
theorem index1 : ∀ t : Fin grid1.N, (win1_1.index t 0 = t.val ∧ win1_1.index t 1 = 0) ∧ (win1_2.index t 0 = t.val ∧ win1_2.index t 1 = 0)
    ∧ (win1_3.index t 0 = t.val ∧ win1_3.index t 1 = 0) ∧ (win1_6.index t 0 = 0 ∧ win1_6.index t 1 = t.val)
    ∧ (win1_0.index t 0 = 0 ∧ win1_0.index t 1 = 0) ∧ (win1_4.index t 0 = 0 ∧ win1_4.index t 1 = 0)
    ∧ (win1_5.index t 0 = 0 ∧ win1_5.index t 1 = 0) := by decide +kernel

/-- The second call has eight grid steps. -/
theorem N1 : cfg1.N = 8 := by decide +kernel

/-- The output gradient's block is the whole array. -/
theorem iblk1_0_apply (c : Dev nD) (t : Fin cfg1.N) (a : Fin 1024) (n : Fin 11008) :
    iblk1 V c 0 t (ix2 a n) = V c main_v1 (ix2 a n) := by
  show V c main_v1 ((win1_0.rect t).emb (ix2 a n)) = _
  obtain ⟨-, -, -, -, ⟨h0, h1⟩, -⟩ := index1 t
  refine congrArg (V c main_v1) (funext fun i => Fin.ext ?_)
  match i with
  | ⟨0, _⟩ => exact win1_0.rect_emb_val_of_index_zero t 0 h0 (ix2 a n)
  | ⟨1, _⟩ => exact win1_0.rect_emb_val_of_index_zero t 1 h1 (ix2 a n)

/-- The block of the products with the second adapter matrix is the whole array. -/
theorem iblk1_4_apply (c : Dev nD) (t : Fin cfg1.N) (a : Fin 1024) (r : Fin 64) :
    iblk1 V c 4 t (ix2 a r) = V c main_v9_2 (ix2 a r) := by
  show V c main_v9_2 ((win1_4.rect t).emb (ix2 a r)) = _
  obtain ⟨-, -, -, -, -, ⟨h0, h1⟩, -⟩ := index1 t
  refine congrArg (V c main_v9_2) (funext fun i => Fin.ext ?_)
  match i with
  | ⟨0, _⟩ => exact win1_4.rect_emb_val_of_index_zero t 0 h0 (ix2 a r)
  | ⟨1, _⟩ => exact win1_4.rect_emb_val_of_index_zero t 1 h1 (ix2 a r)

/-- The table's block is the whole table. -/
theorem iblk1_5_apply (c : Dev nD) (t : Fin cfg1.N) (a : Fin 16) (l : Fin 128) :
    iblk1 V c 5 t (ix2 a l) = V c main_v8 (ix2 a l) := by
  show V c main_v8 ((win1_5.rect t).emb (ix2 a l)) = _
  obtain ⟨-, -, -, -, -, -, ⟨h0, h1⟩⟩ := index1 t
  refine congrArg (V c main_v8) (funext fun i => Fin.ext ?_)
  match i with
  | ⟨0, _⟩ => exact win1_5.rect_emb_val_of_index_zero t 0 h0 (ix2 a l)
  | ⟨1, _⟩ => exact win1_5.rect_emb_val_of_index_zero t 1 h1 (ix2 a l)

/-- The codes' block at step `t` holds the 256 packed rows from `256 * t`. -/
theorem iblk1_1_apply (c : Dev nD) (t : Fin cfg1.N) (a : Fin 256) (n : Fin 11008) (a' : Fin 2048) (ha : a'.val = 256 * t.val + a.val) :
    iblk1 V c 1 t (ix2 a n) = V c main_arg2 (ix2 a' n) := by
  show V c main_arg2 ((win1_1.rect t).emb (ix2 a n)) = _
  obtain ⟨⟨h0, h1⟩, -⟩ := index1 t
  refine congrArg (V c main_arg2) (funext fun i => Fin.ext ?_)
  match i with
  | ⟨0, _⟩ => exact (win1_1.rect_emb_val t (ix2 a n) 0).trans (by rw [h0]; show t.val * 256 + a.val = a'.val; omega)
  | ⟨1, _⟩ => exact win1_1.rect_emb_val_of_index_zero t 1 h1 (ix2 a n)

/-- The scales' block at step `t` holds the eight rows from `8 * t`. -/
theorem iblk1_2_apply (c : Dev nD) (t : Fin cfg1.N) (a : Fin 8) (n : Fin 11008) (a' : Fin 64) (ha : a'.val = 8 * t.val + a.val) :
    iblk1 V c 2 t (ix2 a n) = V c main_arg3 (ix2 a' n) := by
  show V c main_arg3 ((win1_2.rect t).emb (ix2 a n)) = _
  obtain ⟨-, ⟨h0, h1⟩, -⟩ := index1 t
  refine congrArg (V c main_arg3) (funext fun i => Fin.ext ?_)
  match i with
  | ⟨0, _⟩ => exact (win1_2.rect_emb_val t (ix2 a n) 0).trans (by rw [h0]; show t.val * 8 + a.val = a'.val; omega)
  | ⟨1, _⟩ => exact win1_2.rect_emb_val_of_index_zero t 1 h1 (ix2 a n)

/-- The first adapter matrix's block at step `t` holds the 512 rows from `512 * t`. -/
theorem iblk1_3_apply (c : Dev nD) (t : Fin cfg1.N) (d : Fin 512) (r : Fin 64) (d' : Fin 4096) (hd : d'.val = 512 * t.val + d.val) :
    iblk1 V c 3 t (ix2 d r) = V c main_arg4 (ix2 d' r) := by
  show V c main_arg4 ((win1_3.rect t).emb (ix2 d r)) = _
  obtain ⟨-, -, ⟨h0, h1⟩, -⟩ := index1 t
  refine congrArg (V c main_arg4) (funext fun i => Fin.ext ?_)
  match i with
  | ⟨0, _⟩ => exact (win1_3.rect_emb_val t (ix2 d r) 0).trans (by rw [h0]; show t.val * 512 + d.val = d'.val; omega)
  | ⟨1, _⟩ => exact win1_3.rect_emb_val_of_index_zero t 1 h1 (ix2 d r)

/-! ## The value -/

/-- The weight of model row `d` and output column `n`, from the whole packed matrix, the scales and the interleaved table. -/
def wFull (wp : Vec Ideal S2048x11008 .i8) (am : Vec Ideal S64x11008 .bf16) (tab : Vec Ideal S16x128 .bf16) (d : Fin 4096)
    (n : Fin 11008) : EReal :=
  tab (ix2 (nf4Row (d % 2) (wp (ix2 ⟨d / 2, by omega⟩ n))) ⟨n % 128, by omega⟩) * am (ix2 ⟨d / 64, by omega⟩ n)

/-- The gradient at token `a` and model row `d`, from the arrays the call reads. -/
def dxFull (dy : Vec Ideal S1024x11008 .bf16) (wp : Vec Ideal S2048x11008 .i8) (am : Vec Ideal S64x11008 .bf16)
    (la : Vec Ideal S4096x64 .bf16) (g : Vec Ideal S1024x64 .bf16) (tab : Vec Ideal S16x128 .bf16) (a : Fin 1024) (d : Fin 4096) : EReal :=
  quarter * (∑ r : Fin 64, g (ix2 a r) * la (ix2 d r)) + ∑ n : Fin 11008, dy (ix2 a n) * wFull wp am tab d n

/-- The block computed at point `t`, at an index, is that gradient. -/
theorem dxAt_apply (c : Dev nD) (t : Fin cfg1.N) (a : Fin 1024) (d : Fin 512) (d' : Fin 4096) (hd : d'.val = 512 * t.val + d.val) :
    dxAt V c t (ix2 a d) = dxFull (V c main_v1) (V c main_arg2) (V c main_arg3) (V c main_arg4) (V c main_v9_2) (V c main_v8) a d' := by
  have e : dxAt V c t (ix2 a d) = accAt V c t k1_t1_loop.trips (ix2 a d) := by
    unfold dxAt; pointwise [k1_pay4]
  rw [e, trips_eq]
  unfold accAt
  rw [accM_apply _ _ _ _ _ _ _ _ _ _ _ _ _ _ _ _ _ _ _ _ _ _ _ _ a d 43 (le_refl _), part_all]
  unfold dxFull wFull wAt
  have ht : t.val < 8 := N1 ▸ t.isLt
  congr 1
  · refine congrArg _ (Finset.sum_congr rfl fun r _ => ?_)
    rw [iblk1_4_apply, iblk1_3_apply V c t d r d' hd]
  · refine Finset.sum_congr rfl fun n _ => ?_
    rw [iblk1_0_apply, iblk1_5_apply, iblk1_1_apply V c t ⟨d / 2, by omega⟩ n ⟨d' / 2, by omega⟩ (by show d'.val / 2 = 256 * t.val + d.val / 2; omega),
      iblk1_2_apply V c t ⟨d / 64, by omega⟩ n ⟨d' / 64, by omega⟩ (by show d'.val / 64 = 8 * t.val + d.val / 64; omega),
      show d.val % 2 = d'.val % 2 by omega]

/-- `dx`'s array when the call has ended. -/
def dxG (c : Dev nD) : Buf (Elt Ideal) ((c : Thread nD τ).loc main_v10) := fun i : S1024x4096.Idx =>
  dxFull (V c main_v1) (V c main_arg2) (V c main_arg3) (V c main_arg4) (V c main_v9_2) (V c main_v8) (i 0) (i 1)

/-- What step `t` writes back is its block of the gradient of the input. -/
theorem flushed1_6 (c : Dev nD) (t : Fin cfg1.N) :
    (dat1 V c).flushed 6 t = ((cfg1.win 6).blk t).view.read (Elt Ideal) (dxG V c) := by
  show (cfg1.win 6).cut (grid1.coords t) ((dat1 V c).after 6 t) = _
  rw [after1_6]
  funext y
  obtain ⟨a, d, rfl⟩ : ∃ (a : Fin 1024) (d : Fin 512), y = (ix2 a d : S1024x512.Idx) := ⟨y 0, y 1, eq_ix2 (y : S1024x512.Idx)⟩
  show dxAt V c t (ix2 a d) = dxG V c ((win1_6.rect t).emb (ix2 a d))
  obtain ⟨-, -, -, ⟨h0, h1⟩, -⟩ := index1 t
  have e0 : (((win1_6.rect t).emb (ix2 a d) : S1024x4096.Idx) 0) = a := Fin.ext (win1_6.rect_emb_val_of_index_zero t 0 h0 (ix2 a d))
  have e1 : (((win1_6.rect t).emb (ix2 a d) : S1024x4096.Idx) 1).val = 512 * t.val + d.val :=
    (win1_6.rect_emb_val t (ix2 a d) 1).trans (by rw [h1]; show t.val * 512 + d.val = _; omega)
  rw [dxAt_apply V c t a d _ e1]
  unfold dxG
  rw [e0]

/-- Every entry of the output lies in a block that some step writes back. -/
theorem cover1_6 (i : S1024x4096.Idx) : ∃ t : Fin cfg1.N, (cfg1.win 6).flush t = true ∧ i ∈ ((cfg1.win 6).blk t).view.set := by
  have hi0 : (i 0).val < 1024 := (i 0).isLt
  have hi1 : (i 1).val < 4096 := (i 1).isLt
  have ht : (i 1).val / 512 < cfg1.N := by rw [N1]; omega
  refine ⟨⟨(i 1).val / 512, ht⟩, flush1_6 _, ?_⟩
  show i ∈ ((View.whole main_v10).slice (win1_6.rect ⟨(i 1).val / 512, ht⟩)).set
  rw [View.set_slice_whole, Rect.mem_set_unit]
  obtain ⟨-, -, -, ⟨h0, h1⟩, -⟩ := index1 ⟨(i 1).val / 512, ht⟩
  intro a
  show win1_6.index ⟨(i 1).val / 512, ht⟩ a * win1_6.size a ≤ (i a : Nat) ∧ (i a : Nat) < win1_6.index ⟨(i 1).val / 512, ht⟩ a * win1_6.size a + win1_6.xsize (grid1.coords ⟨(i 1).val / 512, ht⟩) a
  match a with
  | ⟨0, _⟩ =>
    rw [show win1_6.index ⟨(i 1).val / 512, ht⟩ ⟨0, by decide⟩ = 0 from h0]
    show 0 * 1024 ≤ (i 0).val ∧ (i 0).val < 0 * 1024 + 1024
    omega
  | ⟨1, _⟩ =>
    rw [show win1_6.index ⟨(i 1).val / 512, ht⟩ ⟨1, by decide⟩ = (i 1).val / 512 from h1]
    show (i 1).val / 512 * 512 ≤ (i 1).val ∧ (i 1).val < (i 1).val / 512 * 512 + 512
    omega

/-- `dx`'S ARRAY ends holding the gradient. -/
theorem final1_6 (c : Dev nD) : (dat1 V c).arrAt 6 cfg1.N = dxG V c :=
  (dat1 V c).arrAt_eq_of_cover 6 (dxG V c) (fun t _ => flushed1_6 V c t) cover1_6

end Region

end Cert.KernelIdeal.Hand
-- ==== Proof.KernelIdealHost.lean ====
module

public import proofs.«01_k».proof.Proof.Nf4
public import proofs.«01_k».proof.Proof.KernelIdealRun
public import proofs.«01_k».proof.Proof.KernelIdealLoraValue
public import proofs.«01_k».proof.Proof.KernelIdealMainValue

/-! # The host operations around the two calls, and what the run leaves in its results -/

@[expose] public section

set_option maxRecDepth 16384

noncomputable section

namespace Cert.KernelIdeal.Hand

open Cert.KernelIdeal.Gen Cert.Nf4
open Idealize.ShloMosaic Idealize.ShloMosaic.TcCoe Idealize.ShloMosaic.StableHlo
open Idealize.SL Idealize.SL.Sem
open Idealize.ShloMosaic.Pipeline (Dat Cfg Window)

/-- The interleaved table as the host operations compute it. -/
def tableH : Vec Ideal S16x128 .bf16 :=
  broadcastInDim S16x128 ![0, 1] bcast_S16x1_S16x128_0_1 (shapeCast S16x1 (concatenate S8x2 1
    [⟨S8x1, broadcastInDim S8x1 ![0] bcast_S8_S8x1_0 (extractStridedSlice S8 ![0]
        (fun i => FloatOps.ofBits (F := Ideal) .bf16 (lit0 (S16.rowMajor i)) : S16.Idx → EReal) slices_S16_S8_0)⟩,
     ⟨S8x1, broadcastInDim S8x1 ![0] bcast_S8_S8x1_0 (extractStridedSlice S8 ![8]
        (fun i => FloatOps.ofBits (F := Ideal) .bf16 (lit0 (S16.rowMajor i)) : S16.Idx → EReal) slices_S16_S8_8)⟩]
    concatenates_S8x1_S8x1_S8x2_d1) shapeCasts_S8x2_S16x1)

/-- Row `k` of the table holds, on every lane, the value of the code that `entry` gives for that row. -/
theorem tableH_apply (k : Fin 16) (l : Fin 128) : tableH (ix2 k l) = nf4 (entry k) := by
  unfold tableH
  pointwise
  split
  · next h =>
    show nf4 (S16.rowMajor (ix1 _)) = nf4 (entry k)
    refine congrArg nf4 (Fin.ext ((Shape.rowMajor_val_one _).trans ?_))
    show k.val / 2 = 8 * (k.val % 2) + k.val / 2
    omega
  · next h =>
    show nf4 (S16.rowMajor (ix1 _)) = nf4 (entry k)
    refine congrArg nf4 (Fin.ext ((Shape.rowMajor_val_one _).trans ?_))
    show 8 + k.val / 2 = 8 * (k.val % 2) + k.val / 2
    omega

section Run
variable (m : (ℓ : Loc nD τ sig) → Buf (Elt Ideal) ℓ) (ρ : Dev nD → PrngReg)

/-- The first call's activations are the launch array without its leading axis of one. -/
theorem W1_v0 (c : Dev nD) : W1 m ρ c (Proc.devRef .tc main_v0)
    = shapeCast S1024x4096 (m ((c : Thread nD τ).loc main_arg0)) shapeCasts_S1x1024x4096_S1024x4096 := by
  show StableHlo.after hostOps0 _ (Proc.devRef .tc main_v0) = _
  after_results
  rfl

/-- The first call's output gradient is the launch array without its leading axis of one. -/
theorem W1_v1 (c : Dev nD) : W1 m ρ c (Proc.devRef .tc main_v1)
    = shapeCast S1024x11008 (m ((c : Thread nD τ).loc main_arg1)) shapeCasts_S1x1024x11008_S1024x11008 := by
  show StableHlo.after hostOps0 _ (Proc.devRef .tc main_v1) = _
  after_results
  rfl

/-- The host operations leave the interleaved table. -/
theorem W1_v8 (c : Dev nD) : W1 m ρ c (Proc.devRef .tc main_v8) = tableH := by
  show StableHlo.after hostOps0 _ (Proc.devRef .tc main_v8) = _
  after_results
  rfl

/-- The first result is the second call's output with a leading axis of one. -/
theorem W4_v11 (c : Dev nD) : W4 m ρ c (Proc.devRef .tc main_v11)
    = shapeCast S1x1024x4096 (W3 m ρ c (Proc.devRef .tc main_v10)) shapeCasts_S1024x4096_S1x1024x4096 := by
  show StableHlo.after hostOps2 _ (Proc.devRef .tc main_v11) = _
  after_results
  rfl

/-- The fourth result is the first call's third output with a leading axis of one. -/
theorem W4_v12 (c : Dev nD) : W4 m ρ c (Proc.devRef .tc main_v12)
    = shapeCast S1x1024x64 (W3 m ρ c (Proc.devRef .tc main_v9_2)) shapeCasts_S1024x64_S1x1024x64 := by
  show StableHlo.after hostOps2 _ (Proc.devRef .tc main_v12) = _
  after_results
  rfl

/-- The fifth result is the first call's fourth output with a leading axis of one. -/
theorem W4_v13 (c : Dev nD) : W4 m ρ c (Proc.devRef .tc main_v13)
    = shapeCast S1x1024x64 (W3 m ρ c (Proc.devRef .tc main_v9_3)) shapeCasts_S1024x64_S1x1024x64 := by
  show StableHlo.after hostOps2 _ (Proc.devRef .tc main_v13) = _
  after_results
  rfl

/-! ## The two calls' arrays at the end of the run -/

/-- After the first call its first output is the gradient of the first adapter matrix. -/
theorem W2_v9_0 (c : Dev nD) : W2 m ρ c (Proc.devRef .tc main_v9_0) = daG (V1 m ρ) c :=
  (W2_arr m ρ c 4).trans (final0_4 (V1 m ρ) c)
/-- After the first call its second output is the gradient of the second adapter matrix. -/
theorem W2_v9_1 (c : Dev nD) : W2 m ρ c (Proc.devRef .tc main_v9_1) = dbG (V1 m ρ) c :=
  (W2_arr m ρ c 5).trans (final0_5 (V1 m ρ) c)
/-- After the first call its third output is the output gradient times the second adapter matrix. -/
theorem W2_v9_2 (c : Dev nD) : W2 m ρ c (Proc.devRef .tc main_v9_2) = gG (V1 m ρ) c :=
  (W2_arr m ρ c 6).trans (final0_6 (V1 m ρ) c)
/-- After the first call its fourth output is the activations times the first adapter matrix. -/
theorem W2_v9_3 (c : Dev nD) : W2 m ρ c (Proc.devRef .tc main_v9_3) = xaG (V1 m ρ) c :=
  (W2_arr m ρ c 7).trans (final0_7 (V1 m ρ) c)
/-- After the second call its output is the gradient of the input. -/
theorem W3_v10 (c : Dev nD) : W3 m ρ c (Proc.devRef .tc main_v10) = dxG (V2 m ρ) c :=
  (W3_arr m ρ c 6).trans (final1_6 (V2 m ρ) c)

/-- The second call leaves the first call's third output as it was. -/
theorem W3_v9_2 (c : Dev nD) : W3 m ρ c (Proc.devRef .tc main_v9_2) = gG (V1 m ρ) c :=
  (W3_of m ρ c main_v9_2 (by decide +kernel)).trans (W2_v9_2 m ρ c)
/-- The second call leaves the first call's fourth output as it was. -/
theorem W3_v9_3 (c : Dev nD) : W3 m ρ c (Proc.devRef .tc main_v9_3) = xaG (V1 m ρ) c :=
  (W3_of m ρ c main_v9_3 (by decide +kernel)).trans (W2_v9_3 m ρ c)
/-- The second result is the gradient of the first adapter matrix: nothing after the first call writes it. -/
theorem W4_v9_0 (c : Dev nD) : W4 m ρ c (Proc.devRef .tc main_v9_0) = daG (V1 m ρ) c :=
  (W4_of m ρ c main_v9_0 (by decide)).trans ((W3_of m ρ c main_v9_0 (by decide +kernel)).trans (W2_v9_0 m ρ c))
/-- The third result is the gradient of the second adapter matrix: nothing after the first call writes it. -/
theorem W4_v9_1 (c : Dev nD) : W4 m ρ c (Proc.devRef .tc main_v9_1) = dbG (V1 m ρ) c :=
  (W4_of m ρ c main_v9_1 (by decide)).trans ((W3_of m ρ c main_v9_1 (by decide +kernel)).trans (W2_v9_1 m ρ c))

/-- The second call's output gradient is the launch array without its leading axis of one. -/
theorem W2_v1 (c : Dev nD) : W2 m ρ c (Proc.devRef .tc main_v1)
    = shapeCast S1024x11008 (m ((c : Thread nD τ).loc main_arg1)) shapeCasts_S1x1024x11008_S1024x11008 :=
  (W2_of m ρ c main_v1 (by decide +kernel)).trans (W1_v1 m ρ c)
/-- The second call's table is the one the host operations left. -/
theorem W2_v8 (c : Dev nD) : W2 m ρ c (Proc.devRef .tc main_v8) = tableH :=
  (W2_of m ρ c main_v8 (by decide +kernel)).trans (W1_v8 m ρ c)

end Run

end Cert.KernelIdeal.Hand
-- ==== Proof.ReferenceWeights.lean ====
module

public import proofs.«01_k».proof.Proof.Nf4
public import proofs.«01_k».proof.Proof.Gen.ReferenceIdeal.Read

/-! # The reference's dequantized weights, element by element -/

@[expose] public section

set_option maxRecDepth 16384

noncomputable section

namespace Cert.Link

open Cert.ReferenceIdeal Cert.ReferenceIdeal.Read Cert.Nf4
open Idealize.ShloMosaic

/-! ## The four bit tests of each half of a byte -/

/-- The four masks of a byte's low half test its four bits. -/
theorem test_lo (c : BitVec 8) :
    (IntOp.cmpi .ne (IntOp.andi (IntOp.andi (c.setWidth 32) 15#32) 8#32) 0#32 = BitVec.ofBool ((c.toNat % 16).testBit 3))
    ∧ (IntOp.cmpi .ne (IntOp.andi (IntOp.andi (c.setWidth 32) 15#32) 4#32) 0#32 = BitVec.ofBool ((c.toNat % 16).testBit 2))
    ∧ (IntOp.cmpi .ne (IntOp.andi (IntOp.andi (c.setWidth 32) 15#32) 2#32) 0#32 = BitVec.ofBool ((c.toNat % 16).testBit 1))
    ∧ (IntOp.cmpi .ne (IntOp.andi (IntOp.andi (c.setWidth 32) 15#32) 1#32) 0#32 = BitVec.ofBool ((c.toNat % 16).testBit 0)) := by
  revert c
  decide +kernel

/-- The four masks of a byte's high half test its four bits. -/
theorem test_hi (c : BitVec 8) :
    (IntOp.cmpi .ne (IntOp.andi (IntOp.shrsi .host (c.setWidth 32) 4#32) 8#32) 0#32 = BitVec.ofBool ((c.toNat / 16).testBit 3))
    ∧ (IntOp.cmpi .ne (IntOp.andi (IntOp.shrsi .host (c.setWidth 32) 4#32) 4#32) 0#32 = BitVec.ofBool ((c.toNat / 16).testBit 2))
    ∧ (IntOp.cmpi .ne (IntOp.andi (IntOp.shrsi .host (c.setWidth 32) 4#32) 2#32) 0#32 = BitVec.ofBool ((c.toNat / 16).testBit 1))
    ∧ (IntOp.cmpi .ne (IntOp.andi (IntOp.shrsi .host (c.setWidth 32) 4#32) 1#32) 0#32 = BitVec.ofBool ((c.toNat / 16).testBit 0)) := by
  revert c
  decide +kernel

/-! ## The tree of selections is the table -/

/-- A selection by a one-bit word made from a truth value. -/
theorem select_ofBool {α : Type} (b : Bool) (x y : α) : Scalar.select (BitVec.ofBool b) x y = bif b then x else y := by
  cases b
  · exact if_neg (by decide)
  · exact if_pos (by decide)

/-- The reference's selections, on a four-bit code. -/
def tree (k : Fin 16) : EReal :=
  (bif k.val.testBit 3 then
    (bif k.val.testBit 2 then
      (bif k.val.testBit 1 then
        (bif k.val.testBit 0 then FloatOps.ofBits (F := Ideal) .bf16 0x3F80#16 else FloatOps.ofBits (F := Ideal) .bf16 0x3F39#16)
      else
        (bif k.val.testBit 0 then FloatOps.ofBits (F := Ideal) .bf16 0x3F10#16 else FloatOps.ofBits (F := Ideal) .bf16 0x3EE2#16))
    else
      (bif k.val.testBit 1 then
        (bif k.val.testBit 0 then FloatOps.ofBits (F := Ideal) .bf16 0x3EAD#16 else FloatOps.ofBits (F := Ideal) .bf16 0x3E7C#16)
      else
        (bif k.val.testBit 0 then FloatOps.ofBits (F := Ideal) .bf16 0x3E25#16 else FloatOps.ofBits (F := Ideal) .bf16 0x3DA3#16)))
  else
    (bif k.val.testBit 2 then
      (bif k.val.testBit 1 then
        (bif k.val.testBit 0 then FloatOps.ofBits (F := Ideal) .bf16 0x0000#16 else FloatOps.ofBits (F := Ideal) .bf16 0xBDBA#16)
      else
        (bif k.val.testBit 0 then FloatOps.ofBits (F := Ideal) .bf16 0xBE3D#16 else FloatOps.ofBits (F := Ideal) .bf16 0xBE92#16))
    else
      (bif k.val.testBit 1 then
        (bif k.val.testBit 0 then FloatOps.ofBits (F := Ideal) .bf16 0xBECA#16 else FloatOps.ofBits (F := Ideal) .bf16 0xBF06#16)
      else
        (bif k.val.testBit 0 then FloatOps.ofBits (F := Ideal) .bf16 0xBF32#16 else FloatOps.ofBits (F := Ideal) .bf16 0xBF80#16))))

/-- The tree's value is the table's entry. -/
theorem tree_eq (k : Fin 16) : tree k = nf4 k := by
  fin_cases k <;> rfl

/-- The reference's selections for the low half of a byte give the code's value. -/
theorem lookup_lo (x2 : (⟨S2048x11008, .i8⟩ : BufTy).Contents (Elt Ideal)) (i : S2048x11008.Idx) :
    val_main_v38 (F := Ideal) x2 i = nf4 (nibble 0 (x2 i)) := by
  simp only [
    val_main_v3_apply, val_main_c_apply, val_main_v4_apply, val_main_v5_apply, val_main_c_2_apply, val_main_v8_apply,
    val_main_v9_apply, val_main_c_3_apply, val_main_v10_apply, val_main_v11_apply, val_main_c_4_apply, val_main_v12_apply,
    val_main_v13_apply, val_main_c_5_apply, val_main_v14_apply, val_main_v15_apply, val_main_c_6_apply, val_main_v16_apply,
    val_main_v17_apply, val_main_c_7_apply, val_main_v18_apply, val_main_v19_apply, val_main_c_8_apply, val_main_v20_apply,
    val_main_v21_apply, val_main_c_9_apply, val_main_v22_apply, val_main_v23_apply, val_main_cst_10_apply, val_main_cst_11_apply,
    val_main_call0_v0_apply, val_main_call0_v1_apply, val_main_v24_apply, val_main_cst_12_apply, val_main_cst_13_apply,
    val_main_call1_v0_apply, val_main_call1_v1_apply, val_main_v25_apply, val_main_v26_apply, val_main_cst_14_apply,
    val_main_cst_15_apply, val_main_call3_v0_apply, val_main_call3_v1_apply, val_main_v27_apply, val_main_cst_16_apply,
    val_main_cst_17_apply, val_main_call4_v0_apply, val_main_call4_v1_apply, val_main_v28_apply, val_main_v29_apply,
    val_main_v30_apply, val_main_cst_18_apply, val_main_cst_19_apply, val_main_call7_v0_apply, val_main_call7_v1_apply,
    val_main_v31_apply, val_main_cst_20_apply, val_main_cst_21_apply, val_main_call8_v0_apply, val_main_call8_v1_apply,
    val_main_v32_apply, val_main_v33_apply, val_main_cst_22_apply, val_main_cst_23_apply, val_main_call10_v0_apply,
    val_main_call10_v1_apply, val_main_v34_apply, val_main_cst_24_apply, val_main_cst_25_apply, val_main_call11_v0_apply,
    val_main_call11_v1_apply, val_main_v35_apply, val_main_v36_apply, val_main_v37_apply, val_main_v38_apply]
  generalize x2 i = c
  obtain ⟨h3, h2, h1, h0⟩ := test_lo c
  rw [h3, h2, h1, h0]
  simp only [select_ofBool]
  unfold nibble
  rw [if_pos rfl, ← tree_eq]
  rfl

/-- The reference's selections for the high half of a byte give the code's value. -/
theorem lookup_hi (x2 : (⟨S2048x11008, .i8⟩ : BufTy).Contents (Elt Ideal)) (i : S2048x11008.Idx) :
    val_main_v74 (F := Ideal) x2 i = nf4 (nibble 1 (x2 i)) := by
  simp only [
    val_main_v3_apply, val_main_c_1_apply, val_main_v6_apply, val_main_v7_apply, val_main_c_26_apply, val_main_v44_apply,
    val_main_v45_apply, val_main_c_27_apply, val_main_v46_apply, val_main_v47_apply, val_main_c_28_apply, val_main_v48_apply,
    val_main_v49_apply, val_main_c_29_apply, val_main_v50_apply, val_main_v51_apply, val_main_c_30_apply, val_main_v52_apply,
    val_main_v53_apply, val_main_c_31_apply, val_main_v54_apply, val_main_v55_apply, val_main_c_32_apply, val_main_v56_apply,
    val_main_v57_apply, val_main_c_33_apply, val_main_v58_apply, val_main_v59_apply, val_main_cst_34_apply,
    val_main_cst_35_apply, val_main_call15_v0_apply, val_main_call15_v1_apply, val_main_v60_apply, val_main_cst_36_apply,
    val_main_cst_37_apply, val_main_call16_v0_apply, val_main_call16_v1_apply, val_main_v61_apply, val_main_v62_apply,
    val_main_cst_38_apply, val_main_cst_39_apply, val_main_call18_v0_apply, val_main_call18_v1_apply, val_main_v63_apply,
    val_main_cst_40_apply, val_main_cst_41_apply, val_main_call19_v0_apply, val_main_call19_v1_apply, val_main_v64_apply,
    val_main_v65_apply, val_main_v66_apply, val_main_cst_42_apply, val_main_cst_43_apply, val_main_call22_v0_apply,
    val_main_call22_v1_apply, val_main_v67_apply, val_main_cst_44_apply, val_main_cst_45_apply, val_main_call23_v0_apply,
    val_main_call23_v1_apply, val_main_v68_apply, val_main_v69_apply, val_main_cst_46_apply, val_main_cst_47_apply,
    val_main_call25_v0_apply, val_main_call25_v1_apply, val_main_v70_apply, val_main_cst_48_apply, val_main_cst_49_apply,
    val_main_call26_v0_apply, val_main_call26_v1_apply, val_main_v71_apply, val_main_v72_apply, val_main_v73_apply,
    val_main_v74_apply]
  generalize x2 i = c
  obtain ⟨h3, h2, h1, h0⟩ := test_hi c
  rw [h3, h2, h1, h0]
  simp only [select_ofBool]
  unfold nibble
  rw [if_neg Nat.one_ne_zero, ← tree_eq]
  rfl

/-! ## The weights -/

/-- The reference's even weight at packed row `j`: the value of the low half times the scale of the row's block. -/
theorem weight_lo (x2 : (⟨S2048x11008, .i8⟩ : BufTy).Contents (Elt Ideal)) (x3 : (⟨S64x11008, .bf16⟩ : BufTy).Contents (Elt Ideal))
    (j : Fin 2048) (n : Fin 11008) :
    val_main_v43 (F := Ideal) x2 x3 (ix2 j n) = nf4 (nibble 0 (x2 (ix2 j n))) * x3 (ix2 ⟨j / 32, by omega⟩ n) := by
  rw [val_main_v43_apply, val_main_v42_apply, val_main_v39_apply, val_main_v41_apply, val_main_v40_apply, lookup_lo]
  refine congrArg₂ (fun a b : EReal => a * b) (congrArg (fun i => nf4 (nibble 0 (x2 i))) (funext fun a => Fin.ext ?_))
    (congrArg x3 (funext fun a => Fin.ext ?_))
  · match a with
    | ⟨0, _⟩ => show (((j.val * 11008 + n.val) / 352256 * 32 + (j.val * 11008 + n.val) / 11008 % 32) * 11008 + (j.val * 11008 + n.val) % 11008) / 11008 = j.val; omega
    | ⟨1, _⟩ => show (((j.val * 11008 + n.val) / 352256 * 32 + (j.val * 11008 + n.val) / 11008 % 32) * 11008 + (j.val * 11008 + n.val) % 11008) % 11008 = n.val; omega
  · match a with
    | ⟨0, _⟩ => show (j.val * 11008 + n.val) / 352256 = j.val / 32; omega
    | ⟨1, _⟩ => show (j.val * 11008 + n.val) % 11008 = n.val; omega

/-- The reference's odd weight at packed row `j`: the value of the high half times the scale of the row's block. -/
theorem weight_hi (x2 : (⟨S2048x11008, .i8⟩ : BufTy).Contents (Elt Ideal)) (x3 : (⟨S64x11008, .bf16⟩ : BufTy).Contents (Elt Ideal))
    (j : Fin 2048) (n : Fin 11008) :
    val_main_v79 (F := Ideal) x2 x3 (ix2 j n) = nf4 (nibble 1 (x2 (ix2 j n))) * x3 (ix2 ⟨j / 32, by omega⟩ n) := by
  rw [val_main_v79_apply, val_main_v78_apply, val_main_v75_apply, val_main_v77_apply, val_main_v76_apply, lookup_hi]
  refine congrArg₂ (fun a b : EReal => a * b) (congrArg (fun i => nf4 (nibble 1 (x2 i))) (funext fun a => Fin.ext ?_))
    (congrArg x3 (funext fun a => Fin.ext ?_))
  · match a with
    | ⟨0, _⟩ => show (((j.val * 11008 + n.val) / 352256 * 32 + (j.val * 11008 + n.val) / 11008 % 32) * 11008 + (j.val * 11008 + n.val) % 11008) / 11008 = j.val; omega
    | ⟨1, _⟩ => show (((j.val * 11008 + n.val) / 352256 * 32 + (j.val * 11008 + n.val) / 11008 % 32) * 11008 + (j.val * 11008 + n.val) % 11008) % 11008 = n.val; omega
  · match a with
    | ⟨0, _⟩ => show (j.val * 11008 + n.val) / 352256 = j.val / 32; omega
    | ⟨1, _⟩ => show (j.val * 11008 + n.val) % 11008 = n.val; omega

end Cert.Link
-- ==== Proof.ReferenceValue.lean ====
module

public import proofs.«01_k».proof.Proof.ReferenceWeights
public import proofs.«01_k».proof.Proof.KernelIdealLoraValue
public import proofs.«01_k».proof.Proof.KernelIdealMainValue
public import Idealize.ShloMosaic.Lib.IdealHost
public import Idealize.ShloMosaic.Lib.Pointwise

/-! # The reference's five results, element by element -/

@[expose] public section

set_option maxRecDepth 16384

noncomputable section

namespace Cert.Link

open Cert.ReferenceIdeal Cert.ReferenceIdeal.Gen Cert.ReferenceIdeal.Read Cert.Nf4
open Cert.KernelIdeal.Hand (quarter gFull gTerm xaFull daFull dbFull)
open Idealize.ShloMosaic

/-! ## The scale -/

/-- The pattern of sixteen. -/
theorem ofBits_sixteen : Ideal.ofBits .f32 0x41800000#32 = ((16 : ℝ) : EReal) := by
  simp [Ideal.ofBits, Ideal.ieee, -EReal.coe_mul]; norm_num
/-- The pattern of sixty-four. -/
theorem ofBits_sixty_four : Ideal.ofBits .f32 0x42800000#32 = ((64 : ℝ) : EReal) := by
  simp [Ideal.ofBits, Ideal.ieee, -EReal.coe_mul]; norm_num
/-- The pattern of one quarter. -/
theorem ofBits_quarter : Ideal.ofBits .f32 0x3E800000#32 = ((1 / 4 : ℝ) : EReal) := by
  simp [Ideal.ofBits, Ideal.ieee, -EReal.coe_mul]; norm_num

/-- The reference's scale, sixteen over sixty-four, is the kernel's constant. -/
theorem scale_eq (i : S_.Idx) : val_main_v2 (F := Ideal) i = quarter := by
  rw [val_main_v2_apply, val_main_cst_apply, val_main_cst_0_apply]
  show Ideal.div (Ideal.ofBits .f32 0x41800000#32) (Ideal.ofBits .f32 0x42800000#32) = Ideal.ofBits .f32 0x3E800000#32
  rw [ofBits_sixteen, ofBits_sixty_four, ofBits_quarter, Ideal.div_coe (by norm_num : (64 : ℝ) ≠ 0), ← EReal.coe_mul]
  norm_num

variable (x0 : (⟨S1x1024x4096, .bf16⟩ : BufTy).Contents (Elt Ideal)) (x1 : (⟨S1x1024x11008, .bf16⟩ : BufTy).Contents (Elt Ideal))
  (x2 : (⟨S2048x11008, .i8⟩ : BufTy).Contents (Elt Ideal)) (x3 : (⟨S64x11008, .bf16⟩ : BufTy).Contents (Elt Ideal))
  (x4 : (⟨S4096x64, .bf16⟩ : BufTy).Contents (Elt Ideal)) (x5 : (⟨S64x11008, .bf16⟩ : BufTy).Contents (Elt Ideal))

/-! ## The adapter's results -/

/-- The output gradient times the second adapter matrix, at one entry. -/
theorem ref_g (t : Fin 1024) (r : Fin 64) :
    val_main_v87 (F := Ideal) x1 x5 (ix2 t r) = gFull (val_main_v1 (F := Ideal) x1) x5 t r := by
  rw [val_main_v87_apply]
  refine (val_main_v86_apply x1 x5 _).trans ?_
  unfold gFull gTerm
  refine Finset.sum_congr rfl fun n _ => ?_
  rw [show lidx_main_v86 (ix2 t r) n = ix2 t n from eq_ix2 _, show ridx_main_v86 (ix2 t r) n = ix2 r n from eq_ix2 _]

/-- The activations times the first adapter matrix, at one entry. -/
theorem ref_xa (t : Fin 1024) (r : Fin 64) :
    val_main_v89 (F := Ideal) x0 x4 (ix2 t r) = xaFull (val_main_v0 (F := Ideal) x0) x4 t r := by
  rw [val_main_v89_apply]
  refine (val_main_v88_apply x0 x4 _).trans ?_
  unfold xaFull
  refine Finset.sum_congr rfl fun n _ => ?_
  rw [show lidx_main_v88 (ix2 t r) n = ix2 t n from eq_ix2 _, show ridx_main_v88 (ix2 t r) n = ix2 n r from eq_ix2 _]

/-- The gradient of the first adapter matrix, at one entry. -/
theorem ref_da (d : Fin 4096) (r : Fin 64) :
    val_main_v98 (F := Ideal) x0 x1 x5 (ix2 d r) = daFull (val_main_v0 (F := Ideal) x0) (val_main_v1 (F := Ideal) x1) x5 d r := by
  rw [val_main_v98_apply, val_main_v97_apply, scale_eq, val_main_v96_apply]
  unfold daFull
  refine congrArg (fun e : EReal => quarter * e) (Finset.sum_congr rfl fun t _ => ?_)
  rw [show lidx_main_v96 (ix2 d r) t = ix2 t d from eq_ix2 _, show ridx_main_v96 (ix2 d r) t = ix2 t r from eq_ix2 _, ref_g]

/-- The gradient of the second adapter matrix, at one entry. -/
theorem ref_db (r : Fin 64) (n : Fin 11008) :
    val_main_v101 (F := Ideal) x0 x1 x4 (ix2 r n) = dbFull (val_main_v0 (F := Ideal) x0) (val_main_v1 (F := Ideal) x1) x4 r n := by
  rw [val_main_v101_apply, val_main_v100_apply, scale_eq, val_main_v99_apply]
  unfold dbFull
  refine congrArg (fun e : EReal => quarter * e) (Finset.sum_congr rfl fun t _ => ?_)
  rw [show lidx_main_v99 (ix2 r n) t = ix2 t r from eq_ix2 _, show ridx_main_v99 (ix2 r n) t = ix2 t n from eq_ix2 _, ref_xa]

/-! ## The gradient of the input -/

/-- The reference's weight of model row `d` and output column `n`. -/
def wRef (d : Fin 4096) (n : Fin 11008) : EReal :=
  nf4 (nibble (d % 2) (x2 (ix2 ⟨d / 2, by omega⟩ n))) * x3 (ix2 ⟨d / 64, by omega⟩ n)

/-- The product with the low halves, at packed row `j`, is the sum for the even model row `2 * j`. -/
theorem ref_lo (a : Fin 1024) (j : Fin 2048) (d : Fin 4096) (hd : d.val = 2 * j.val) :
    val_main_v80 (F := Ideal) x1 x2 x3 (ix2 a j) = ∑ n : Fin 11008, val_main_v1 (F := Ideal) x1 (ix2 a n) * wRef x2 x3 d n := by
  rw [val_main_v80_apply]
  refine Finset.sum_congr rfl fun n _ => ?_
  rw [show lidx_main_v80 (ix2 a j) n = ix2 a n from eq_ix2 _, show ridx_main_v80 (ix2 a j) n = ix2 j n from eq_ix2 _, weight_lo]
  unfold wRef
  rw [show d.val % 2 = 0 by omega, show (⟨d.val / 2, by omega⟩ : Fin 2048) = j from Fin.ext (by show d.val / 2 = j.val; omega),
    show (⟨d.val / 64, by omega⟩ : Fin 64) = ⟨j.val / 32, by omega⟩ from Fin.ext (by show d.val / 64 = j.val / 32; omega)]

/-- The product with the high halves, at packed row `j`, is the sum for the odd model row `2 * j + 1`. -/
theorem ref_hi (a : Fin 1024) (j : Fin 2048) (d : Fin 4096) (hd : d.val = 2 * j.val + 1) :
    val_main_v81 (F := Ideal) x1 x2 x3 (ix2 a j) = ∑ n : Fin 11008, val_main_v1 (F := Ideal) x1 (ix2 a n) * wRef x2 x3 d n := by
  rw [val_main_v81_apply]
  refine Finset.sum_congr rfl fun n _ => ?_
  rw [show lidx_main_v81 (ix2 a j) n = ix2 a n from eq_ix2 _, show ridx_main_v81 (ix2 a j) n = ix2 j n from eq_ix2 _, weight_hi]
  unfold wRef
  rw [show d.val % 2 = 1 by omega, show (⟨d.val / 2, by omega⟩ : Fin 2048) = j from Fin.ext (by show d.val / 2 = j.val; omega),
    show (⟨d.val / 64, by omega⟩ : Fin 64) = ⟨j.val / 32, by omega⟩ from Fin.ext (by show d.val / 64 = j.val / 32; omega)]

/-- Two blocks of rows stacked on a last axis of two and flattened lie interleaved. -/
theorem interleave_apply (y z : Vec Ideal S1024x2048 .f32) (a : Fin 1024) (d : Fin 4096) :
    shapeCast S1024x4096 (concatenate S1024x2048x2 2
      [⟨S1024x2048x1, broadcastInDim S1024x2048x1 ![0, 1] bcast_S1024x2048_S1024x2048x1_0_1 y⟩,
       ⟨S1024x2048x1, broadcastInDim S1024x2048x1 ![0, 1] bcast_S1024x2048_S1024x2048x1_0_1 z⟩]
      concatenates_S1024x2048x1_S1024x2048x1_S1024x2048x2_d2) shapeCasts_S1024x2048x2_S1024x4096 (ix2 a d)
    = if d.val % 2 < 1 then y (ix2 a ⟨d.val / 2, by omega⟩) else z (ix2 a ⟨d.val / 2, by omega⟩) := by
  pointwise
  rfl

/-- The reference's main product at every model row. -/
theorem ref_stack (a : Fin 1024) (d : Fin 4096) :
    val_main_v85 (F := Ideal) x1 x2 x3 (ix2 a d) = ∑ n : Fin 11008, val_main_v1 (F := Ideal) x1 (ix2 a n) * wRef x2 x3 d n := by
  unfold val_main_v85 val_main_v84 val_main_v82 val_main_v83
  refine (interleave_apply (val_main_v80 (F := Ideal) x1 x2 x3) (val_main_v81 (F := Ideal) x1 x2 x3) a d).trans ?_
  by_cases h : d.val % 2 < 1
  · rw [if_pos h]
    exact ref_lo x1 x2 x3 a _ d (by show d.val = 2 * (d.val / 2); omega)
  · rw [if_neg h]
    exact ref_hi x1 x2 x3 a _ d (by show d.val = 2 * (d.val / 2) + 1; omega)

/-- The reference's gradient of the input at one entry. -/
theorem ref_dx (a : Fin 1024) (d : Fin 4096) :
    val_main_v94 (F := Ideal) x1 x2 x3 x4 x5 (ix2 a d)
      = quarter * (∑ r : Fin 64, gFull (val_main_v1 (F := Ideal) x1) x5 a r * x4 (ix2 d r))
        + ∑ n : Fin 11008, val_main_v1 (F := Ideal) x1 (ix2 a n) * wRef x2 x3 d n := by
  rw [val_main_v94_apply, val_main_v93_apply, ref_stack, val_main_v92_apply, val_main_v91_apply, scale_eq, val_main_v90_apply]
  refine (add_comm (_ : EReal) _).trans ?_
  refine congrArg (fun e : EReal => quarter * e + _) (Finset.sum_congr rfl fun r _ => ?_)
  rw [show lidx_main_v90 (ix2 a d) r = ix2 a r from eq_ix2 _, show ridx_main_v90 (ix2 a d) r = ix2 d r from eq_ix2 _, ref_g]

/-- The kernel's weight, with a table that holds the sixteen values interleaved, is the reference's. -/
theorem wFull_eq (tab : Vec Ideal Cert.KernelIdeal.S16x128 .bf16)
    (htab : ∀ (k : Fin 16) (l : Fin 128), tab (ix2 k l) = nf4 (entry k)) (d : Fin 4096) (n : Fin 11008) :
    Cert.KernelIdeal.Hand.wFull x2 x3 tab d n = wRef x2 x3 d n := by
  unfold Cert.KernelIdeal.Hand.wFull wRef
  rw [htab, entry_nf4Row]

/-- The kernel's gradient of the input, from the products with the second adapter matrix and such a table, is the
    reference's. -/
theorem dx_eq (g : Vec Ideal Cert.KernelIdeal.S1024x64 .bf16) (tab : Vec Ideal Cert.KernelIdeal.S16x128 .bf16)
    (hg : ∀ (t : Fin 1024) (r : Fin 64), g (ix2 t r) = gFull (val_main_v1 (F := Ideal) x1) x5 t r)
    (htab : ∀ (k : Fin 16) (l : Fin 128), tab (ix2 k l) = nf4 (entry k)) (a : Fin 1024) (d : Fin 4096) :
    val_main_v94 (F := Ideal) x1 x2 x3 x4 x5 (ix2 a d)
      = Cert.KernelIdeal.Hand.dxFull (val_main_v1 (F := Ideal) x1) x2 x3 x4 g tab a d := by
  rw [ref_dx]
  unfold Cert.KernelIdeal.Hand.dxFull
  simp only [wFull_eq x2 x3 tab htab, hg]

end Cert.Link
-- ==== Proof.Algebraic.lean ====
module

public import proofs.«01_k».proof.Defs
public import proofs.«01_k».proof.Proof.Gen.ReferenceIdeal.Run
public import proofs.«01_k».proof.Proof.Gen.ReferenceIdeal.Read
public import proofs.«01_k».proof.Proof.KernelIdealHost
public import proofs.«01_k».proof.Proof.ReferenceValue

/-! # The kernel's five results are the reference's -/

@[expose] public section

set_option maxRecDepth 16384

noncomputable section

namespace Cert.Link

open Cert.ReferenceIdeal.Read Cert.Nf4
open Cert.KernelIdeal.Hand Cert.KernelIdeal
open Idealize.ShloMosaic Idealize.ShloMosaic.TcCoe
open Idealize.SL Idealize.SL.Sem

variable (m : (ℓ : Loc nD τ sig) → Buf (Elt Ideal) ℓ) (ρ : Dev nD → PrngReg) (c : Dev nD)

/-- The gradient of the first adapter matrix: the kernel's array at the end of the run is the reference's term. -/
theorem eq_da : W4 m ρ c (Proc.devRef .tc main_v9_0)
    = val_main_v98 (F := Ideal) (m ((c : Thread nD τ).loc main_arg0)) (m ((c : Thread nD τ).loc main_arg1)) (m ((c : Thread nD τ).loc main_arg5)) := by
  refine (W4_v9_0 m ρ c).trans (funext fun (i : S4096x64.Idx) => ?_)
  refine Eq.trans ?_ ((ref_da _ _ _ (i 0) (i 1)).symm.trans (congrArg _ (eq_ix2 i).symm))
  show daFull (W1 m ρ c (Proc.devRef .tc main_v0)) (W1 m ρ c (Proc.devRef .tc main_v1)) (W1 m ρ c (Proc.devRef .tc main_arg5)) (i 0) (i 1) = _
  rw [W1_v0, W1_v1, W1_args m ρ c main_arg5 (by decide)]
  rfl

/-- The gradient of the second adapter matrix: the kernel's array at the end of the run is the reference's term. -/
theorem eq_db : W4 m ρ c (Proc.devRef .tc main_v9_1)
    = val_main_v101 (F := Ideal) (m ((c : Thread nD τ).loc main_arg0)) (m ((c : Thread nD τ).loc main_arg1)) (m ((c : Thread nD τ).loc main_arg4)) := by
  refine (W4_v9_1 m ρ c).trans (funext fun (i : S64x11008.Idx) => ?_)
  refine Eq.trans ?_ ((ref_db _ _ _ (i 0) (i 1)).symm.trans (congrArg _ (eq_ix2 i).symm))
  show dbFull (W1 m ρ c (Proc.devRef .tc main_v0)) (W1 m ρ c (Proc.devRef .tc main_v1)) (W1 m ρ c (Proc.devRef .tc main_arg4)) (i 0) (i 1) = _
  rw [W1_v0, W1_v1, W1_args m ρ c main_arg4 (by decide)]
  rfl

/-- The products with the second adapter matrix, before the last reshape. -/
theorem eq_g : gG (V1 m ρ) c = val_main_v87 (F := Ideal) (m ((c : Thread nD τ).loc main_arg1)) (m ((c : Thread nD τ).loc main_arg5)) := by
  funext (i : S1024x64.Idx)
  refine Eq.trans ?_ ((ref_g _ _ (i 0) (i 1)).symm.trans (congrArg _ (eq_ix2 i).symm))
  show gFull (W1 m ρ c (Proc.devRef .tc main_v1)) (W1 m ρ c (Proc.devRef .tc main_arg5)) (i 0) (i 1) = _
  rw [W1_v1, W1_args m ρ c main_arg5 (by decide)]
  rfl

/-- The products with the first adapter matrix, before the last reshape. -/
theorem eq_xa : xaG (V1 m ρ) c = val_main_v89 (F := Ideal) (m ((c : Thread nD τ).loc main_arg0)) (m ((c : Thread nD τ).loc main_arg4)) := by
  funext (i : S1024x64.Idx)
  refine Eq.trans ?_ ((ref_xa _ _ (i 0) (i 1)).symm.trans (congrArg _ (eq_ix2 i).symm))
  show xaFull (W1 m ρ c (Proc.devRef .tc main_v0)) (W1 m ρ c (Proc.devRef .tc main_arg4)) (i 0) (i 1) = _
  rw [W1_v0, W1_args m ρ c main_arg4 (by decide)]
  rfl

/-- The gradient of the input, before the last reshape. -/
theorem eq_dx : dxG (V2 m ρ) c = val_main_v94 (F := Ideal) (m ((c : Thread nD τ).loc main_arg1)) (m ((c : Thread nD τ).loc main_arg2))
    (m ((c : Thread nD τ).loc main_arg3)) (m ((c : Thread nD τ).loc main_arg4)) (m ((c : Thread nD τ).loc main_arg5)) := by
  funext (i : S1024x4096.Idx)
  refine Eq.trans ?_ ((dx_eq _ _ _ _ _ (W2 m ρ c (Proc.devRef .tc main_v9_2)) (W2 m ρ c (Proc.devRef .tc main_v8)) ?_ ?_ (i 0) (i 1)).symm.trans
    (congrArg _ (eq_ix2 i).symm))
  · show dxFull (W2 m ρ c (Proc.devRef .tc main_v1)) (W2 m ρ c (Proc.devRef .tc main_arg2)) (W2 m ρ c (Proc.devRef .tc main_arg3))
      (W2 m ρ c (Proc.devRef .tc main_arg4)) (W2 m ρ c (Proc.devRef .tc main_v9_2)) (W2 m ρ c (Proc.devRef .tc main_v8)) (i 0) (i 1) = _
    rw [W2_v1, W2_args m ρ c main_arg2 (by decide), W2_args m ρ c main_arg3 (by decide), W2_args m ρ c main_arg4 (by decide)]
    rfl
  · intro t r
    rw [W2_v9_2, eq_g]
    exact ref_g _ _ t r
  · intro k l
    rw [W2_v8]
    exact tableH_apply k l

/-- The gradient of the input as returned: the kernel's result is the reference's term. -/
theorem eq_v11 : W4 m ρ c (Proc.devRef .tc main_v11)
    = val_main_v95 (F := Ideal) (m ((c : Thread nD τ).loc main_arg1)) (m ((c : Thread nD τ).loc main_arg2))
    (m ((c : Thread nD τ).loc main_arg3)) (m ((c : Thread nD τ).loc main_arg4)) (m ((c : Thread nD τ).loc main_arg5)) := by
  rw [W4_v11, W3_v10, eq_dx]
  rfl

/-- The products with the second adapter matrix as returned: the kernel's result is the reference's term. -/
theorem eq_v12 : W4 m ρ c (Proc.devRef .tc main_v12)
    = val_main_v102 (F := Ideal) (m ((c : Thread nD τ).loc main_arg1)) (m ((c : Thread nD τ).loc main_arg5)) := by
  rw [W4_v12, W3_v9_2, eq_g]
  rfl

/-- The products with the first adapter matrix as returned: the kernel's result is the reference's term. -/
theorem eq_v13 : W4 m ρ c (Proc.devRef .tc main_v13)
    = val_main_v103 (F := Ideal) (m ((c : Thread nD τ).loc main_arg0)) (m ((c : Thread nD τ).loc main_arg4)) := by
  rw [W4_v13, W3_v9_3, eq_xa]
  rfl

/-- Both programs run, and each of the five results is equal. -/
theorem algebraic : Cert.algebraic_KernelIdeal_ReferenceIdeal := by
  intro m g m' g' _ hargs
  refine ⟨fun c => W4 m g c (Proc.devRef .tc main_v11), fun c => W4 m g c (Proc.devRef .tc main_v9_0), fun c => W4 m g c (Proc.devRef .tc main_v9_1),
    fun c => W4 m g c (Proc.devRef .tc main_v12), fun c => W4 m g c (Proc.devRef .tc main_v13), ?_, ?_⟩
  · refine (θ_run defs _ _).mono (fun r h c => ?_) (Cert.KernelIdeal.Hand.run m g)
    have h' := h.1 c
    exact ⟨h' _ (mem_uc main_v11 (by decide)), h' _ (mem_uc main_v9_0 (by decide)), h' _ (mem_uc main_v9_1 (by decide)),
      h' _ (mem_uc main_v12 (by decide)), h' _ (mem_uc main_v13 (by decide)),
      (h' _ (mem_uc main_arg0 (by decide))).trans (W4_main_arg0 m g c), (h' _ (mem_uc main_arg1 (by decide))).trans (W4_main_arg1 m g c),
      (h' _ (mem_uc main_arg2 (by decide))).trans (W4_main_arg2 m g c), (h' _ (mem_uc main_arg3 (by decide))).trans (W4_main_arg3 m g c),
      (h' _ (mem_uc main_arg4 (by decide))).trans (W4_main_arg4 m g c), (h' _ (mem_uc main_arg5 (by decide))).trans (W4_main_arg5 m g c)⟩
  · refine (θ_run Cert.ReferenceIdeal.defs _ _).mono (fun r h c => ?_) (Cert.ReferenceIdeal.Value.run m' g')
    obtain ⟨r0, r1, r2, r3, r4, ra⟩ := h c
    obtain ⟨a0, a1, a2, a3, a4, a5⟩ := hargs c
    refine ⟨r0.trans ((val_main_v95_eq _).trans ?_), r1.trans ((val_main_v98_eq _).trans ?_), r2.trans ((val_main_v101_eq _).trans ?_),
      r3.trans ((val_main_v102_eq _).trans ?_), r4.trans ((val_main_v103_eq _).trans ?_), ra⟩
    · show val_main_v95 (F := Ideal) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
      rw [a1, a2, a3, a4, a5]
      exact (eq_v11 m g c).symm
    · show val_main_v98 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg5)) = _
      rw [a0, a1, a5]
      exact (eq_da m g c).symm
    · show val_main_v101 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg4)) = _
      rw [a0, a1, a4]
      exact (eq_db m g c).symm
    · show val_main_v102 (F := Ideal) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg5)) = _
      rw [a1, a5]
      exact (eq_v12 m g c).symm
    · show val_main_v103 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg4)) = _
      rw [a0, a4]
      exact (eq_v13 m g c).symm

end Cert.Link
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelIdealRun
public import proofs.«01_k».proof.Proof.Algebraic
public import Idealize.ShloMosaic.Adequacy
public import Idealize.ShloMosaic.Lib.Bf16Pair
public import Idealize.ShloMosaic.Init

@[expose] public section

noncomputable section

-- The claims about Kernel, KernelIdeal, ReferenceIdeal also say that every semaphore counter ends at zero.

namespace Cert.Proof

open Idealize.ShloMosaic Idealize.SL.Sem

/-- The reference runs and leaves its arguments; it has no semaphore. -/
theorem frame_reference : Cert.quiescent_ReferenceIdeal := fun m ρ _ =>
  (θ_run Cert.ReferenceIdeal.defs _ _).mono (fun r h => ⟨fun c => (h c).2.2.2.2.2,
    funext fun g => by obtain ⟨_, (s | s)⟩ := g <;> exact s.elim0⟩) (Cert.ReferenceIdeal.Value.run m ρ)

/-- All five claims: the three frames, the rewrites' statements, and the equality of every result. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, frame_reference,
  ⟨IdealRules.bf16_pair.statement _ _, IdealRules.bf16_pair.packStatement _⟩, Cert.Link.algebraic⟩

end Cert.Proof

end
